-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  IdealRules.named_const.Statement Cert.KernelIdeal.κ "inv_n" .f32 0x394CCCCD#32 ((1 / 5120 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v25_0)) (v1 : (c : Dev Cert.KernelIdeal.nD) → Buf (Elt Ideal) ((c.tc : Thread Cert.KernelIdeal.nD Cert.KernelIdeal.τ).loc Cert.KernelIdeal.main_v25_1)) (v2 : (c : Dev Cert.KernelIdeal.nD) → Buf (Elt Ideal) ((c.tc : Thread Cert.KernelIdeal.nD Cert.KernelIdeal.τ).loc Cert.KernelIdeal.main_v25_2)) (v3 : (c : Dev Cert.KernelIdeal.nD) → Buf (Elt Ideal) ((c.tc : Thread Cert.KernelIdeal.nD Cert.KernelIdeal.τ).loc Cert.KernelIdeal.main_v25_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25_0) = v0 c
          ∧ r.2.mem ((c.tc : Thread Cert.KernelIdeal.nD Cert.KernelIdeal.τ).loc Cert.KernelIdeal.main_v25_1) = v1 c
          ∧ r.2.mem ((c.tc : Thread Cert.KernelIdeal.nD Cert.KernelIdeal.τ).loc Cert.KernelIdeal.main_v25_2) = v2 c
          ∧ r.2.mem ((c.tc : Thread Cert.KernelIdeal.nD Cert.KernelIdeal.τ).loc Cert.KernelIdeal.main_v25_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18_0) = v0 c
          ∧ r.2.mem ((c.tc : Thread Cert.ReferenceIdeal.nD Cert.ReferenceIdeal.τ).loc Cert.ReferenceIdeal.main_v18_1) = v1 c
          ∧ r.2.mem ((c.tc : Thread Cert.ReferenceIdeal.nD Cert.ReferenceIdeal.τ).loc Cert.ReferenceIdeal.main_v18_2) = v2 c
          ∧ r.2.mem ((c.tc : Thread Cert.ReferenceIdeal.nD Cert.ReferenceIdeal.τ).loc Cert.ReferenceIdeal.main_v18_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x1024x40x128 : Shape := ⟨4, ![2, 1024, 40, 128]⟩
abbrev S2x1024x40 : Shape := ⟨3, ![2, 1024, 40]⟩
abbrev S2x1024x8x128 : Shape := ⟨4, ![2, 1024, 8, 128]⟩
abbrev S2x1024x8 : Shape := ⟨3, ![2, 1024, 8]⟩
abbrev S40x128 : Shape := ⟨2, ![40, 128]⟩
abbrev S8x128 : Shape := ⟨2, ![8, 128]⟩
abbrev S2x1024 : Shape := ⟨2, ![2, 1024]⟩
abbrev S64 : Shape := ⟨1, ![64]⟩
abbrev S_ : Shape := ⟨0, ![]⟩
abbrev S128 : Shape := ⟨1, ![128]⟩
abbrev S1x128 : Shape := ⟨2, ![1, 128]⟩
abbrev S2048x1 : Shape := ⟨2, ![2048, 1]⟩
abbrev S2x40x1024 : Shape := ⟨3, ![2, 40, 1024]⟩
abbrev S2x8x1024 : Shape := ⟨3, ![2, 8, 1024]⟩
abbrev S81920x128 : Shape := ⟨2, ![81920, 128]⟩
abbrev S16384x128 : Shape := ⟨2, ![16384, 128]⟩
abbrev S128x1 : Shape := ⟨2, ![128, 1]⟩
abbrev S1x40x128 : Shape := ⟨3, ![1, 40, 128]⟩
abbrev S1x8x128 : Shape := ⟨3, ![1, 8, 128]⟩
abbrev S5120x128 : Shape := ⟨2, ![5120, 128]⟩
abbrev S1024x128 : Shape := ⟨2, ![1024, 128]⟩
abbrev S128x128 : Shape := ⟨2, ![128, 128]⟩
abbrev S40x1 : Shape := ⟨2, ![40, 1]⟩
abbrev S1 : Shape := ⟨1, ![1]⟩
abbrev S1x1 : Shape := ⟨2, ![1, 1]⟩
abbrev S8x1 : Shape := ⟨2, ![8, 1]⟩

abbrev nBuf : Space → Nat
  | .hbm => 48
  | .vmem => 30
  | .smem => 0
  | _ => 0

abbrev bufTy : (tb : Table) → Fin (tcTables nBuf tb) → BufTy
  | .hbm, ⟨0, _⟩ => ⟨S2x1024x40x128, .fp8e5m2⟩
  | .hbm, ⟨1, _⟩ => ⟨S2x1024x40, .f32⟩
  | .hbm, ⟨2, _⟩ => ⟨S2x1024x8x128, .fp8e5m2⟩
  | .hbm, ⟨3, _⟩ => ⟨S2x1024x8, .f32⟩
  | .hbm, ⟨4, _⟩ => ⟨S2x1024x40x128, .fp8e4m3⟩
  | .hbm, ⟨5, _⟩ => ⟨S2x1024x40, .f32⟩
  | .hbm, ⟨6, _⟩ => ⟨S2x1024x8x128, .fp8e4m3⟩
  | .hbm, ⟨7, _⟩ => ⟨S2x1024x8, .f32⟩
  | .hbm, ⟨8, _⟩ => ⟨S40x128, .f32⟩
  | .hbm, ⟨9, _⟩ => ⟨S8x128, .f32⟩
  | .hbm, ⟨10, _⟩ => ⟨S2x1024, .i32⟩
  | .hbm, ⟨11, _⟩ => ⟨S64, .f32⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S_, .f32⟩
  | .hbm, ⟨16, _⟩ => ⟨S64, .f32⟩
  | .hbm, ⟨17, _⟩ => ⟨S64, .f32⟩
  | .hbm, ⟨18, _⟩ => ⟨S64, .f32⟩
  | .hbm, ⟨19, _⟩ => ⟨S_, .f32⟩
  | .hbm, ⟨20, _⟩ => ⟨S64, .f32⟩
  | .hbm, ⟨21, _⟩ => ⟨S64, .f32⟩
  | .hbm, ⟨22, _⟩ => ⟨S128, .f32⟩
  | .hbm, ⟨23, _⟩ => ⟨S1x128, .f32⟩
  | .hbm, ⟨24, _⟩ => ⟨S128, .i32⟩
  | .hbm, ⟨25, _⟩ => ⟨S_, .i32⟩
  | .hbm, ⟨26, _⟩ => ⟨S128, .i32⟩
  | .hbm, ⟨27, _⟩ => ⟨S128, .i1⟩
  | .hbm, ⟨28, _⟩ => ⟨S_, .f32⟩
  | .hbm, ⟨29, _⟩ => ⟨S_, .f32⟩
  | .hbm, ⟨30, _⟩ => ⟨S128, .f32⟩
  | .hbm, ⟨31, _⟩ => ⟨S128, .f32⟩
  | .hbm, ⟨32, _⟩ => ⟨S128, .f32⟩
  | .hbm, ⟨33, _⟩ => ⟨S128, .f32⟩
  | .hbm, ⟨34, _⟩ => ⟨S1x128, .f32⟩
  | .hbm, ⟨35, _⟩ => ⟨S2048x1, .i32⟩
  | .hbm, ⟨36, _⟩ => ⟨S2x40x1024, .f32⟩
  | .hbm, ⟨37, _⟩ => ⟨S2x40x1024, .f32⟩
  | .hbm, ⟨38, _⟩ => ⟨S2x8x1024, .f32⟩
  | .hbm, ⟨39, _⟩ => ⟨S2x8x1024, .f32⟩
  | .hbm, ⟨40, _⟩ => ⟨S81920x128, .fp8e5m2⟩
  | .hbm, ⟨41, _⟩ => ⟨S81920x128, .fp8e4m3⟩
  | .hbm, ⟨42, _⟩ => ⟨S16384x128, .fp8e5m2⟩
  | .hbm, ⟨43, _⟩ => ⟨S16384x128, .fp8e4m3⟩
  | .hbm, ⟨44, _⟩ => ⟨S81920x128, .bf16⟩
  | .hbm, ⟨45, _⟩ => ⟨S16384x128, .bf16⟩
  | .hbm, ⟨46, _⟩ => ⟨S40x128, .f32⟩
  | .hbm, ⟨47, _⟩ => ⟨S8x128, .f32⟩
  | .local _ .vmem, ⟨0, _⟩ => ⟨S128x1, .i32⟩
  | .local _ .vmem, ⟨1, _⟩ => ⟨S128x1, .i32⟩
  | .local _ .vmem, ⟨2, _⟩ => ⟨S1x128, .f32⟩
  | .local _ .vmem, ⟨3, _⟩ => ⟨S1x128, .f32⟩
  | .local _ .vmem, ⟨4, _⟩ => ⟨S40x128, .f32⟩
  | .local _ .vmem, ⟨5, _⟩ => ⟨S8x128, .f32⟩
  | .local _ .vmem, ⟨6, _⟩ => ⟨S1x40x128, .f32⟩
  | .local _ .vmem, ⟨7, _⟩ => ⟨S1x40x128, .f32⟩
  | .local _ .vmem, ⟨8, _⟩ => ⟨S1x40x128, .f32⟩
  | .local _ .vmem, ⟨9, _⟩ => ⟨S1x40x128, .f32⟩
  | .local _ .vmem, ⟨10, _⟩ => ⟨S1x8x128, .f32⟩
  | .local _ .vmem, ⟨11, _⟩ => ⟨S1x8x128, .f32⟩
  | .local _ .vmem, ⟨12, _⟩ => ⟨S1x8x128, .f32⟩
  | .local _ .vmem, ⟨13, _⟩ => ⟨S1x8x128, .f32⟩
  | .local _ .vmem, ⟨14, _⟩ => ⟨S5120x128, .fp8e5m2⟩
  | .local _ .vmem, ⟨15, _⟩ => ⟨S5120x128, .fp8e5m2⟩
  | .local _ .vmem, ⟨16, _⟩ => ⟨S5120x128, .fp8e4m3⟩
  | .local _ .vmem, ⟨17, _⟩ => ⟨S5120x128, .fp8e4m3⟩
  | .local _ .vmem, ⟨18, _⟩ => ⟨S1024x128, .fp8e5m2⟩
  | .local _ .vmem, ⟨19, _⟩ => ⟨S1024x128, .fp8e5m2⟩
  | .local _ .vmem, ⟨20, _⟩ => ⟨S1024x128, .fp8e4m3⟩
  | .local _ .vmem, ⟨21, _⟩ => ⟨S1024x128, .fp8e4m3⟩
  | .local _ .vmem, ⟨22, _⟩ => ⟨S5120x128, .bf16⟩
  | .local _ .vmem, ⟨23, _⟩ => ⟨S5120x128, .bf16⟩
  | .local _ .vmem, ⟨24, _⟩ => ⟨S1024x128, .bf16⟩
  | .local _ .vmem, ⟨25, _⟩ => ⟨S1024x128, .bf16⟩
  | .local _ .vmem, ⟨26, _⟩ => ⟨S40x128, .f32⟩
  | .local _ .vmem, ⟨27, _⟩ => ⟨S8x128, .f32⟩
  | .local _ .vmem, ⟨28, _⟩ => ⟨S128x128, .f32⟩
  | .local _ .vmem, ⟨29, _⟩ => ⟨S128x128, .f32⟩
  | _, _ => ⟨S2x1024x40x128, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c : Ref sig .tc := ⟨.hbm, 25, rfl⟩
abbrev main_v11 : Ref sig .tc := ⟨.hbm, 26, rfl⟩
abbrev main_v12 : Ref sig .tc := ⟨.hbm, 27, rfl⟩
abbrev main_cst_2 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25_0 : Ref sig .tc := ⟨.hbm, 44, rfl⟩
abbrev main_v25_1 : Ref sig .tc := ⟨.hbm, 45, rfl⟩
abbrev main_v25_2 : Ref sig .tc := ⟨.hbm, 46, rfl⟩
abbrev main_v25_3 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg16_0 : Ref sig .tc := ⟨.vmem, 27, rfl⟩
abbrev cc0_scratch0 : Ref sig .tc := ⟨.vmem, 28, rfl⟩
abbrev cc0_scratch1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem16_0 : DmaSem sig := 27

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_10 : BitVec 32 := 0#32
  let c16_i32 : BitVec 32 := 16#32
  let v23 : BitVec 32 := Scalar.addi c0_i32_10 c16_i32
  let c1_i32 : BitVec 32 := 1#32
  ⟨c0_i32_10, v23, c1_i32⟩
def k0_mult1 (k0_t1 : Fin k0_t1_loop.trips) : BitVec 32 :=
  let c0_i32_13 : BitVec 32 := 0#32
  let c0_i32_10 : BitVec 32 := 0#32
  let c1_i32 : BitVec 32 := 1#32
  let arg20 : BitVec 32 := Scf.iv c0_i32_10 c1_i32 k0_t1
  let c1_i32_12 : BitVec 32 := 1#32
  let v24 : BitVec 32 := Scalar.muli arg20 c1_i32_12
  let v25 : BitVec 32 := Scalar.addi c0_i32_13 v24
  let c8_i32 : BitVec 32 := 8#32
  let v26 : BitVec 32 := Scalar.muli v25 c8_i32
  let c0_i32_53 : BitVec 32 := 0#32
  let v83 : BitVec 32 := Scalar.addi v26 c0_i32_53
  let c40_i32 : BitVec 32 := 40#32
  let v84 : BitVec 32 := Scalar.muli v83 c40_i32
  v84
def k0_off1 (k0_t1 : Fin k0_t1_loop.trips) (c0_i32_53 : BitVec 32) : Fin 2 → Nat :=
  let c0_i32_13 : BitVec 32 := 0#32
  let c0_i32_10 : BitVec 32 := 0#32
  let c1_i32 : BitVec 32 := 1#32
  let arg20 : BitVec 32 := Scf.iv c0_i32_10 c1_i32 k0_t1
  let c1_i32_12 : BitVec 32 := 1#32
  let v24 : BitVec 32 := Scalar.muli arg20 c1_i32_12
  let v25 : BitVec 32 := Scalar.addi c0_i32_13 v24
  let c8_i32 : BitVec 32 := 8#32
  let v26 : BitVec 32 := Scalar.muli v25 c8_i32
  let v83 : BitVec 32 := Scalar.addi v26 c0_i32_53
  let v88 : Index := Scalar.indexCast v83
  let c0_54 : Index := 0#32
  ![v88.toNat, 0]
def k0_off2 (k0_t1 : Fin k0_t1_loop.trips) (c0_i32_53 : BitVec 32) : Fin 2 → Nat :=
  let c0_i32_13 : BitVec 32 := 0#32
  let c0_i32_10 : BitVec 32 := 0#32
  let c1_i32 : BitVec 32 := 1#32
  let arg20 : BitVec 32 := Scf.iv c0_i32_10 c1_i32 k0_t1
  let c1_i32_12 : BitVec 32 := 1#32
  let v24 : BitVec 32 := Scalar.muli arg20 c1_i32_12
  let v25 : BitVec 32 := Scalar.addi c0_i32_13 v24
  let c8_i32 : BitVec 32 := 8#32
  let v26 : BitVec 32 := Scalar.muli v25 c8_i32
  let v83 : BitVec 32 := Scalar.addi v26 c0_i32_53
  let c40_i32 : BitVec 32 := 40#32
  let v84 : BitVec 32 := Scalar.muli v83 c40_i32
  let v85 : BitVec 32 := v84
  let v92 : Index := Scalar.indexCast v85
  let c0_56 : Index := 0#32
  ![v92.toNat, 0]
def k0_mult2 (k0_t1 : Fin k0_t1_loop.trips) : BitVec 32 :=
  let c0_i32_13 : BitVec 32 := 0#32
  let c0_i32_10 : BitVec 32 := 0#32
  let c1_i32 : BitVec 32 := 1#32
  let arg20 : BitVec 32 := Scf.iv c0_i32_10 c1_i32 k0_t1
  let c1_i32_12 : BitVec 32 := 1#32
  let v24 : BitVec 32 := Scalar.muli arg20 c1_i32_12
  let v25 : BitVec 32 := Scalar.addi c0_i32_13 v24
  let c8_i32 : BitVec 32 := 8#32
  let v26 : BitVec 32 := Scalar.muli v25 c8_i32
  let c0_i32_71 : BitVec 32 := 0#32
  let v144 : BitVec 32 := Scalar.addi v26 c0_i32_71
  let c8_i32_72 : BitVec 32 := 8#32
  let v145 : BitVec 32 := Scalar.muli v144 c8_i32_72
  v145
def k0_off3 (k0_t1 : Fin k0_t1_loop.trips) (c0_i32_71 : BitVec 32) : Fin 2 → Nat :=
  let c0_i32_13 : BitVec 32 := 0#32
  let c0_i32_10 : BitVec 32 := 0#32
  let c1_i32 : BitVec 32 := 1#32
  let arg20 : BitVec 32 := Scf.iv c0_i32_10 c1_i32 k0_t1
  let c1_i32_12 : BitVec 32 := 1#32
  let v24 : BitVec 32 := Scalar.muli arg20 c1_i32_12
  let v25 : BitVec 32 := Scalar.addi c0_i32_13 v24
  let c8_i32 : BitVec 32 := 8#32
  let v26 : BitVec 32 := Scalar.muli v25 c8_i32
  let v144 : BitVec 32 := Scalar.addi v26 c0_i32_71
  let c8_i32_72 : BitVec 32 := 8#32
  let v145 : BitVec 32 := Scalar.muli v144 c8_i32_72
  let v146 : BitVec 32 := v145
  let v153 : Index := Scalar.indexCast v146
  let c0_75 : Index := 0#32
  ![v153.toNat, 0]
def k0_mult3 (k0_t1 : Fin k0_t1_loop.trips) : BitVec 32 :=
  let c0_i32_13 : BitVec 32 := 0#32
  let c0_i32_10 : BitVec 32 := 0#32
  let c1_i32 : BitVec 32 := 1#32
  let arg20 : BitVec 32 := Scf.iv c0_i32_10 c1_i32 k0_t1
  let c1_i32_12 : BitVec 32 := 1#32
  let v24 : BitVec 32 := Scalar.muli arg20 c1_i32_12
  let v25 : BitVec 32 := Scalar.addi c0_i32_13 v24
  let c8_i32 : BitVec 32 := 8#32
  let v26 : BitVec 32 := Scalar.muli v25 c8_i32
  let c1_i32_92 : BitVec 32 := 1#32
  let v205 : BitVec 32 := Scalar.addi v26 c1_i32_92
  let c40_i32_93 : BitVec 32 := 40#32
  let v206 : BitVec 32 := Scalar.muli v205 c40_i32_93
  v206
def k0_mult4 (k0_t1 : Fin k0_t1_loop.trips) : BitVec 32 :=
  let c0_i32_13 : BitVec 32 := 0#32
  let c0_i32_10 : BitVec 32 := 0#32
  let c1_i32 : BitVec 32 := 1#32
  let arg20 : BitVec 32 := Scf.iv c0_i32_10 c1_i32 k0_t1
  let c1_i32_12 : BitVec 32 := 1#32
  let v24 : BitVec 32 := Scalar.muli arg20 c1_i32_12
  let v25 : BitVec 32 := Scalar.addi c0_i32_13 v24
  let c8_i32 : BitVec 32 := 8#32
  let v26 : BitVec 32 := Scalar.muli v25 c8_i32
  let c1_i32_113 : BitVec 32 := 1#32
  let v266 : BitVec 32 := Scalar.addi v26 c1_i32_113
  let c8_i32_114 : BitVec 32 := 8#32
  let v267 : BitVec 32 := Scalar.muli v266 c8_i32_114
  v267
def k0_mult5 (k0_t1 : Fin k0_t1_loop.trips) : BitVec 32 :=
  let c0_i32_13 : BitVec 32 := 0#32
  let c0_i32_10 : BitVec 32 := 0#32
  let c1_i32 : BitVec 32 := 1#32
  let arg20 : BitVec 32 := Scf.iv c0_i32_10 c1_i32 k0_t1
  let c1_i32_12 : BitVec 32 := 1#32
  let v24 : BitVec 32 := Scalar.muli arg20 c1_i32_12
  let v25 : BitVec 32 := Scalar.addi c0_i32_13 v24
  let c8_i32 : BitVec 32 := 8#32
  let v26 : BitVec 32 := Scalar.muli v25 c8_i32
  let c2_i32 : BitVec 32 := 2#32
  let v327 : BitVec 32 := Scalar.addi v26 c2_i32
  let c40_i32_134 : BitVec 32 := 40#32
  let v328 : BitVec 32 := Scalar.muli v327 c40_i32_134
  v328
def k0_mult6 (k0_t1 : Fin k0_t1_loop.trips) : BitVec 32 :=
  let c0_i32_13 : BitVec 32 := 0#32
  let c0_i32_10 : BitVec 32 := 0#32
  let c1_i32 : BitVec 32 := 1#32
  let arg20 : BitVec 32 := Scf.iv c0_i32_10 c1_i32 k0_t1
  let c1_i32_12 : BitVec 32 := 1#32
  let v24 : BitVec 32 := Scalar.muli arg20 c1_i32_12
  let v25 : BitVec 32 := Scalar.addi c0_i32_13 v24
  let c8_i32 : BitVec 32 := 8#32
  let v26 : BitVec 32 := Scalar.muli v25 c8_i32
  let c2_i32_154 : BitVec 32 := 2#32
  let v388 : BitVec 32 := Scalar.addi v26 c2_i32_154
  let c8_i32_155 : BitVec 32 := 8#32
  let v389 : BitVec 32 := Scalar.muli v388 c8_i32_155
  v389
def k0_mult7 (k0_t1 : Fin k0_t1_loop.trips) : BitVec 32 :=
  let c0_i32_13 : BitVec 32 := 0#32
  let c0_i32_10 : BitVec 32 := 0#32
  let c1_i32 : BitVec 32 := 1#32
  let arg20 : BitVec 32 := Scf.iv c0_i32_10 c1_i32 k0_t1
  let c1_i32_12 : BitVec 32 := 1#32
  let v24 : BitVec 32 := Scalar.muli arg20 c1_i32_12
  let v25 : BitVec 32 := Scalar.addi c0_i32_13 v24
  let c8_i32 : BitVec 32 := 8#32
  let v26 : BitVec 32 := Scalar.muli v25 c8_i32
  let c3_i32 : BitVec 32 := 3#32
  let v449 : BitVec 32 := Scalar.addi v26 c3_i32
  let c40_i32_175 : BitVec 32 := 40#32
  let v450 : BitVec 32 := Scalar.muli v449 c40_i32_175
  v450
def k0_mult8 (k0_t1 : Fin k0_t1_loop.trips) : BitVec 32 :=
  let c0_i32_13 : BitVec 32 := 0#32
  let c0_i32_10 : BitVec 32 := 0#32
  let c1_i32 : BitVec 32 := 1#32
  let arg20 : BitVec 32 := Scf.iv c0_i32_10 c1_i32 k0_t1
  let c1_i32_12 : BitVec 32 := 1#32
  let v24 : BitVec 32 := Scalar.muli arg20 c1_i32_12
  let v25 : BitVec 32 := Scalar.addi c0_i32_13 v24
  let c8_i32 : BitVec 32 := 8#32
  let v26 : BitVec 32 := Scalar.muli v25 c8_i32
  let c3_i32_195 : BitVec 32 := 3#32
  let v510 : BitVec 32 := Scalar.addi v26 c3_i32_195
  let c8_i32_196 : BitVec 32 := 8#32
  let v511 : BitVec 32 := Scalar.muli v510 c8_i32_196
  v511
def k0_mult9 (k0_t1 : Fin k0_t1_loop.trips) : BitVec 32 :=
  let c0_i32_13 : BitVec 32 := 0#32
  let c0_i32_10 : BitVec 32 := 0#32
  let c1_i32 : BitVec 32 := 1#32
  let arg20 : BitVec 32 := Scf.iv c0_i32_10 c1_i32 k0_t1
  let c1_i32_12 : BitVec 32 := 1#32
  let v24 : BitVec 32 := Scalar.muli arg20 c1_i32_12
  let v25 : BitVec 32 := Scalar.addi c0_i32_13 v24
  let c8_i32 : BitVec 32 := 8#32
  let v26 : BitVec 32 := Scalar.muli v25 c8_i32
  let c4_i32 : BitVec 32 := 4#32
  let v571 : BitVec 32 := Scalar.addi v26 c4_i32
  let c40_i32_216 : BitVec 32 := 40#32
  let v572 : BitVec 32 := Scalar.muli v571 c40_i32_216
  v572
def k0_mult10 (k0_t1 : Fin k0_t1_loop.trips) : BitVec 32 :=
  let c0_i32_13 : BitVec 32 := 0#32
  let c0_i32_10 : BitVec 32 := 0#32
  let c1_i32 : BitVec 32 := 1#32
  let arg20 : BitVec 32 := Scf.iv c0_i32_10 c1_i32 k0_t1
  let c1_i32_12 : BitVec 32 := 1#32
  let v24 : BitVec 32 := Scalar.muli arg20 c1_i32_12
  let v25 : BitVec 32 := Scalar.addi c0_i32_13 v24
  let c8_i32 : BitVec 32 := 8#32
  let v26 : BitVec 32 := Scalar.muli v25 c8_i32
  let c4_i32_236 : BitVec 32 := 4#32
  let v632 : BitVec 32 := Scalar.addi v26 c4_i32_236
  let c8_i32_237 : BitVec 32 := 8#32
  let v633 : BitVec 32 := Scalar.muli v632 c8_i32_237
  v633
def k0_mult11 (k0_t1 : Fin k0_t1_loop.trips) : BitVec 32 :=
  let c0_i32_13 : BitVec 32 := 0#32
  let c0_i32_10 : BitVec 32 := 0#32
  let c1_i32 : BitVec 32 := 1#32
  let arg20 : BitVec 32 := Scf.iv c0_i32_10 c1_i32 k0_t1
  let c1_i32_12 : BitVec 32 := 1#32
  let v24 : BitVec 32 := Scalar.muli arg20 c1_i32_12
  let v25 : BitVec 32 := Scalar.addi c0_i32_13 v24
  let c8_i32 : BitVec 32 := 8#32
  let v26 : BitVec 32 := Scalar.muli v25 c8_i32
  let c5_i32 : BitVec 32 := 5#32
  let v693 : BitVec 32 := Scalar.addi v26 c5_i32
  let c40_i32_257 : BitVec 32 := 40#32
  let v694 : BitVec 32 := Scalar.muli v693 c40_i32_257
  v694
def k0_mult12 (k0_t1 : Fin k0_t1_loop.trips) : BitVec 32 :=
  let c0_i32_13 : BitVec 32 := 0#32
  let c0_i32_10 : BitVec 32 := 0#32
  let c1_i32 : BitVec 32 := 1#32
  let arg20 : BitVec 32 := Scf.iv c0_i32_10 c1_i32 k0_t1
  let c1_i32_12 : BitVec 32 := 1#32
  let v24 : BitVec 32 := Scalar.muli arg20 c1_i32_12
  let v25 : BitVec 32 := Scalar.addi c0_i32_13 v24
  let c8_i32 : BitVec 32 := 8#32
  let v26 : BitVec 32 := Scalar.muli v25 c8_i32
  let c5_i32_277 : BitVec 32 := 5#32
  let v754 : BitVec 32 := Scalar.addi v26 c5_i32_277
  let c8_i32_278 : BitVec 32 := 8#32
  let v755 : BitVec 32 := Scalar.muli v754 c8_i32_278
  v755
def k0_mult13 (k0_t1 : Fin k0_t1_loop.trips) : BitVec 32 :=
  let c0_i32_13 : BitVec 32 := 0#32
  let c0_i32_10 : BitVec 32 := 0#32
  let c1_i32 : BitVec 32 := 1#32
  let arg20 : BitVec 32 := Scf.iv c0_i32_10 c1_i32 k0_t1
  let c1_i32_12 : BitVec 32 := 1#32
  let v24 : BitVec 32 := Scalar.muli arg20 c1_i32_12
  let v25 : BitVec 32 := Scalar.addi c0_i32_13 v24
  let c8_i32 : BitVec 32 := 8#32
  let v26 : BitVec 32 := Scalar.muli v25 c8_i32
  let c6_i32 : BitVec 32 := 6#32
  let v815 : BitVec 32 := Scalar.addi v26 c6_i32
  let c40_i32_298 : BitVec 32 := 40#32
  let v816 : BitVec 32 := Scalar.muli v815 c40_i32_298
  v816
def k0_mult14 (k0_t1 : Fin k0_t1_loop.trips) : BitVec 32 :=
  let c0_i32_13 : BitVec 32 := 0#32
  let c0_i32_10 : BitVec 32 := 0#32
  let c1_i32 : BitVec 32 := 1#32
  let arg20 : BitVec 32 := Scf.iv c0_i32_10 c1_i32 k0_t1
  let c1_i32_12 : BitVec 32 := 1#32
  let v24 : BitVec 32 := Scalar.muli arg20 c1_i32_12
  let v25 : BitVec 32 := Scalar.addi c0_i32_13 v24
  let c8_i32 : BitVec 32 := 8#32
  let v26 : BitVec 32 := Scalar.muli v25 c8_i32
  let c6_i32_318 : BitVec 32 := 6#32
  let v876 : BitVec 32 := Scalar.addi v26 c6_i32_318
  let c8_i32_319 : BitVec 32 := 8#32
  let v877 : BitVec 32 := Scalar.muli v876 c8_i32_319
  v877
def k0_mult15 (k0_t1 : Fin k0_t1_loop.trips) : BitVec 32 :=
  let c0_i32_13 : BitVec 32 := 0#32
  let c0_i32_10 : BitVec 32 := 0#32
  let c1_i32 : BitVec 32 := 1#32
  let arg20 : BitVec 32 := Scf.iv c0_i32_10 c1_i32 k0_t1
  let c1_i32_12 : BitVec 32 := 1#32
  let v24 : BitVec 32 := Scalar.muli arg20 c1_i32_12
  let v25 : BitVec 32 := Scalar.addi c0_i32_13 v24
  let c8_i32 : BitVec 32 := 8#32
  let v26 : BitVec 32 := Scalar.muli v25 c8_i32
  let c7_i32 : BitVec 32 := 7#32
  let v937 : BitVec 32 := Scalar.addi v26 c7_i32
  let c40_i32_339 : BitVec 32 := 40#32
  let v938 : BitVec 32 := Scalar.muli v937 c40_i32_339
  v938
def k0_mult16 (k0_t1 : Fin k0_t1_loop.trips) : BitVec 32 :=
  let c0_i32_13 : BitVec 32 := 0#32
  let c0_i32_10 : BitVec 32 := 0#32
  let c1_i32 : BitVec 32 := 1#32
  let arg20 : BitVec 32 := Scf.iv c0_i32_10 c1_i32 k0_t1
  let c1_i32_12 : BitVec 32 := 1#32
  let v24 : BitVec 32 := Scalar.muli arg20 c1_i32_12
  let v25 : BitVec 32 := Scalar.addi c0_i32_13 v24
  let c8_i32 : BitVec 32 := 8#32
  let v26 : BitVec 32 := Scalar.muli v25 c8_i32
  let c7_i32_359 : BitVec 32 := 7#32
  let v998 : BitVec 32 := Scalar.addi v26 c7_i32_359
  let c8_i32_360 : BitVec 32 := 8#32
  let v999 : BitVec 32 := Scalar.muli v998 c8_i32_360
  v999
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_6 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_7 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_8 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S40x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x40x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x40x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x8x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S5120x128 .fp8e5m2 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S5120x128 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x128 .fp8e5m2 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x128 .fp8e4m3 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S5120x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S40x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S8x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== KernelIdeal.lean ====
variable {F : FTy → Type} [FloatOps F] [Named F]
def κ : String → Option EReal := fun
  | "inv_n" => some ((1 / 5120 : ℝ) : EReal)
  | _ => none
-- ==== ReferenceIdeal.lean ====
abbrev S2x1024x40x128 : Shape := ⟨4, ![2, 1024, 40, 128]⟩
abbrev S2x1024x40 : Shape := ⟨3, ![2, 1024, 40]⟩
abbrev S2x1024x8x128 : Shape := ⟨4, ![2, 1024, 8, 128]⟩
abbrev S2x1024x8 : Shape := ⟨3, ![2, 1024, 8]⟩
abbrev S40x128 : Shape := ⟨2, ![40, 128]⟩
abbrev S8x128 : Shape := ⟨2, ![8, 128]⟩
abbrev S2x1024 : Shape := ⟨2, ![2, 1024]⟩
abbrev S64 : Shape := ⟨1, ![64]⟩
abbrev S_ : Shape := ⟨0, ![]⟩
abbrev S2x1024x1 : Shape := ⟨3, ![2, 1024, 1]⟩
abbrev S1x1x64 : Shape := ⟨3, ![1, 1, 64]⟩
abbrev S2x1024x64 : Shape := ⟨3, ![2, 1024, 64]⟩
abbrev S2x1024x1x64 : Shape := ⟨4, ![2, 1024, 1, 64]⟩
abbrev S81920x128 : Shape := ⟨2, ![81920, 128]⟩
abbrev S16384x128 : Shape := ⟨2, ![16384, 128]⟩
abbrev S2x1024x40x1 : Shape := ⟨4, ![2, 1024, 40, 1]⟩
abbrev S2x1024x40x64 : Shape := ⟨4, ![2, 1024, 40, 64]⟩
abbrev S2x1024x1x1 : Shape := ⟨4, ![2, 1024, 1, 1]⟩
abbrev S1x1x40x128 : Shape := ⟨4, ![1, 1, 40, 128]⟩
abbrev S2x1024x8x1 : Shape := ⟨4, ![2, 1024, 8, 1]⟩
abbrev S2x1024x8x64 : Shape := ⟨4, ![2, 1024, 8, 64]⟩
abbrev S1x1x8x128 : Shape := ⟨4, ![1, 1, 8, 128]⟩

abbrev nBuf : Space → Nat
  | .hbm => 36
  | .vmem => 16
  | .smem => 0
  | _ => 0

abbrev bufTy : (tb : Table) → Fin (tcTables nBuf tb) → BufTy
  | .hbm, ⟨0, _⟩ => ⟨S2x1024x40x128, .fp8e5m2⟩
  | .hbm, ⟨1, _⟩ => ⟨S2x1024x40, .f32⟩
  | .hbm, ⟨2, _⟩ => ⟨S2x1024x8x128, .fp8e5m2⟩
  | .hbm, ⟨3, _⟩ => ⟨S2x1024x8, .f32⟩
  | .hbm, ⟨4, _⟩ => ⟨S2x1024x40x128, .fp8e4m3⟩
  | .hbm, ⟨5, _⟩ => ⟨S2x1024x40, .f32⟩
  | .hbm, ⟨6, _⟩ => ⟨S2x1024x8x128, .fp8e4m3⟩
  | .hbm, ⟨7, _⟩ => ⟨S2x1024x8, .f32⟩
  | .hbm, ⟨8, _⟩ => ⟨S40x128, .f32⟩
  | .hbm, ⟨9, _⟩ => ⟨S8x128, .f32⟩
  | .hbm, ⟨10, _⟩ => ⟨S2x1024, .i32⟩
  | .hbm, ⟨11, _⟩ => ⟨S64, .f32⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S_, .f32⟩
  | .hbm, ⟨16, _⟩ => ⟨S64, .f32⟩
  | .hbm, ⟨17, _⟩ => ⟨S64, .f32⟩
  | .hbm, ⟨18, _⟩ => ⟨S64, .f32⟩
  | .hbm, ⟨19, _⟩ => ⟨S_, .f32⟩
  | .hbm, ⟨20, _⟩ => ⟨S64, .f32⟩
  | .hbm, ⟨21, _⟩ => ⟨S64, .f32⟩
  | .hbm, ⟨22, _⟩ => ⟨S2x1024, .f32⟩
  | .hbm, ⟨23, _⟩ => ⟨S2x1024x1, .f32⟩
  | .hbm, ⟨24, _⟩ => ⟨S1x1x64, .f32⟩
  | .hbm, ⟨25, _⟩ => ⟨S2x1024x64, .f32⟩
  | .hbm, ⟨26, _⟩ => ⟨S2x1024x64, .f32⟩
  | .hbm, ⟨27, _⟩ => ⟨S2x1024x64, .f32⟩
  | .hbm, ⟨28, _⟩ => ⟨S2x1024x64, .f32⟩
  | .hbm, ⟨29, _⟩ => ⟨S2x1024x1x64, .f32⟩
  | .hbm, ⟨30, _⟩ => ⟨S2x1024x64, .f32⟩
  | .hbm, ⟨31, _⟩ => ⟨S2x1024x1x64, .f32⟩
  | .hbm, ⟨32, _⟩ => ⟨S81920x128, .bf16⟩
  | .hbm, ⟨33, _⟩ => ⟨S16384x128, .bf16⟩
  | .hbm, ⟨34, _⟩ => ⟨S40x128, .f32⟩
  | .hbm, ⟨35, _⟩ => ⟨S8x128, .f32⟩
  | .local _ .vmem, ⟨0, _⟩ => ⟨S2x1024x40x128, .fp8e5m2⟩
  | .local _ .vmem, ⟨1, _⟩ => ⟨S2x1024x40, .f32⟩
  | .local _ .vmem, ⟨2, _⟩ => ⟨S2x1024x8x128, .fp8e5m2⟩
  | .local _ .vmem, ⟨3, _⟩ => ⟨S2x1024x8, .f32⟩
  | .local _ .vmem, ⟨4, _⟩ => ⟨S2x1024x40x128, .fp8e4m3⟩
  | .local _ .vmem, ⟨5, _⟩ => ⟨S2x1024x40, .f32⟩
  | .local _ .vmem, ⟨6, _⟩ => ⟨S2x1024x8x128, .fp8e4m3⟩
  | .local _ .vmem, ⟨7, _⟩ => ⟨S2x1024x8, .f32⟩
  | .local _ .vmem, ⟨8, _⟩ => ⟨S40x128, .f32⟩
  | .local _ .vmem, ⟨9, _⟩ => ⟨S8x128, .f32⟩
  | .local _ .vmem, ⟨10, _⟩ => ⟨S2x1024x1x64, .f32⟩
  | .local _ .vmem, ⟨11, _⟩ => ⟨S2x1024x1x64, .f32⟩
  | .local _ .vmem, ⟨12, _⟩ => ⟨S81920x128, .bf16⟩
  | .local _ .vmem, ⟨13, _⟩ => ⟨S16384x128, .bf16⟩
  | .local _ .vmem, ⟨14, _⟩ => ⟨S40x128, .f32⟩
  | .local _ .vmem, ⟨15, _⟩ => ⟨S8x128, .f32⟩
  | _, _ => ⟨S2x1024x40x128, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18_0 : Ref sig .tc := ⟨.hbm, 32, rfl⟩
abbrev main_v18_1 : Ref sig .tc := ⟨.hbm, 33, rfl⟩
abbrev main_v18_2 : Ref sig .tc := ⟨.hbm, 34, rfl⟩
abbrev main_v18_3 : Ref sig .tc := ⟨.hbm, 35, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15

abbrev nD : Nat := 1
abbrev τ : Topo := Topo.v7x

variable {F : FTy → Type} [FloatOps F]

abbrev grid0 : Pipeline.Grid := .none

abbrev stage0_0 : Fin 1 → Memref sig .tc .vmem S2x1024x40x128 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x1024x40 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x1024x8x128 .fp8e5m2 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x1024x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x1024x40x128 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x1024x40 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x1024x8x128 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x1024x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S40x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x1024x1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x1024x1x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S81920x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S16384x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S40x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S8x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
-- ==== Proof.Token.lean ====
/-
  One token of the kernel's body, as whole-vector operations, written once for any number `H` of heads.

  A token's `H` head rows are an [H, 128] block. Its codes are dequantised by one column of scales, the gradient
  is rotated back, the input is normalised by the token's joint root mean square, and two things come out: the
  block of the input gradient, and the block added to the gradient of the norm's weights.
-/
module

public import proofs.«01_k».proof.Proof.Gen.KernelIdeal

@[expose] public section

noncomputable section

namespace Cert.KernelIdeal.Token

open Idealize.ShloMosaic Cert.KernelIdeal Cert.KernelIdeal.Gen

/-- An [H, 128] block: `H` heads of 128 lanes. -/
abbrev Rows (H : ℕ) : Shape := ⟨2, ![H, 128]⟩
/-- An [H, 1] column: one scale for each head. -/
abbrev Col (H : ℕ) : Shape := ⟨2, ![H, 1]⟩

/-- The shape facts a token's operations need of the number of heads. -/
structure Fits (H : ℕ) : Prop where
  cast : (Rows H).ShapeCasts (Rows H)
  col : (Col H).Broadcasts (Rows H)
  row : S1x128.Broadcasts (Rows H)
  one : S1x1.Broadcasts (Rows H)
  rot : (Rows H).Rotates 1 none
  red : (Rows H).Reduces [0] S128

/-- The query heads' block has the shape facts. -/
theorem fitsQ : Fits 40 :=
  ⟨shapeCasts_S40x128_S40x128, broadcasts_S40x1_S40x128, broadcasts_S1x128_S40x128, broadcasts_S1x1_S40x128,
    rotates_S40x128_d1, reduces_S40x128_S128⟩

/-- The key heads' block has the shape facts. -/
theorem fitsK : Fits 8 :=
  ⟨shapeCasts_S8x128_S8x128, broadcasts_S8x1_S8x128, broadcasts_S1x128_S8x128, broadcasts_S1x1_S8x128,
    rotates_S8x128_d1, reduces_S8x128_S128⟩

variable {F : FTy → Type} [FloatOps F] {H : ℕ}

/-- The dequantised input: the codes times their head's scale. -/
def xin (h : Fits H) (b : FVec F (Col H) .f32) (x : FVec F (Rows H) .fp8e4m3) : FVec F (Rows H) .f32 :=
  mulf (extf .f32 (shapeCast (Rows H) x h.cast) bitsLt_fp8e4m3_f32) (broadcastTo (Rows H) b h.col)

/-- The dequantised gradient: the codes times their head's scale. -/
def dyin (h : Fits H) (a : FVec F (Col H) .f32) (dy : FVec F (Rows H) .fp8e5m2) : FVec F (Rows H) .f32 :=
  mulf (extf .f32 (shapeCast (Rows H) dy h.cast) bitsLt_fp8e5m2_f32) (broadcastTo (Rows H) a h.col)

/-- The gradient rotated back by the token's angle: times the cosines, plus itself rolled half way round times the
    signed sines. -/
def dn (h : Fits H) (a : FVec F (Col H) .f32) (c s : FVec F S1x128 .f32) (dy : FVec F (Rows H) .fp8e5m2) :
    FVec F (Rows H) .f32 :=
  addf (mulf (dyin h a dy) (broadcastTo (Rows H) c h.row))
    (mulf (dynamicRotate 1 64#32 none (dyin h a dy) h.rot) (broadcastTo (Rows H) s h.row))

/-- The sum over a token's heads and lanes, heads first. -/
def total (h : Fits H) (v : FVec F (Rows H) .f32) : FVec F S1x1 .f32 :=
  shapeCast S1x1 (multiReduction .add [1] S1
    (shapeCast S1x128 (multiReduction .add [0] S128 v 0x00000000#32 h.red (.inl rfl) rfl) shapeCasts_S128_S1x128)
    0x00000000#32 reduces_S1x128_S1 (.inl rfl) rfl) shapeCasts_S1_S1x1

/-- The reciprocal root mean square of a token, `n` the reciprocal of the number of its elements. -/
def rstd (h : Fits H) (n : F .f32) (b : FVec F (Col H) .f32) (x : FVec F (Rows H) .fp8e4m3) : FVec F S1x1 .f32 :=
  rsqrt (addf (mulf (total h (mulf (xin h b x) (xin h b x))) (broadcast S1x1 n))
    (broadcast S1x1 (Scalar.ofBits .f32 0x358637BD#32)))

/-- The normalised input. -/
def xhat (h : Fits H) (n : F .f32) (b : FVec F (Col H) .f32) (x : FVec F (Rows H) .fp8e4m3) : FVec F (Rows H) .f32 :=
  mulf (xin h b x) (broadcastTo (Rows H) (rstd h n b x) h.one)

/-- What a token adds to the gradient of the norm's weights. -/
def dg (h : Fits H) (n : F .f32) (a b : FVec F (Col H) .f32) (c s : FVec F S1x128 .f32)
    (dy : FVec F (Rows H) .fp8e5m2) (x : FVec F (Rows H) .fp8e4m3) : FVec F (Rows H) .f32 :=
  mulf (dn h a c s dy) (xhat h n b x)

/-- A token's block of the input gradient, `g` the norm's weights. -/
def dx (h : Fits H) (n : F .f32) (a b : FVec F (Col H) .f32) (c s : FVec F S1x128 .f32)
    (dy : FVec F (Rows H) .fp8e5m2) (x : FVec F (Rows H) .fp8e4m3) (g : FVec F (Rows H) .f32) : FVec F (Rows H) .bf16 :=
  truncf .bf16
    (mulf (broadcastTo (Rows H) (rstd h n b x) h.one)
      (subf (mulf (dn h a c s dy) g)
        (mulf (xhat h n b x)
          (broadcastTo (Rows H) (mulf (total h (mulf (dg h n a b c s dy x) g)) (broadcast S1x1 n)) h.one))))
    bitsLt_bf16_f32

end Cert.KernelIdeal.Token
-- ==== Proof.Vals.lean ====
/-
  What one block of 128 tokens is computed from, and the two things each of its tokens gives, named by the loop's trip
  and the token's place in the trip.
-/
module

public import proofs.«01_k».proof.Proof.Gen.KernelIdeal.Loops
public import Idealize.ShloMosaic.Lib.Pipeline.Value
public import proofs.«01_k».proof.Proof.Token

@[expose] public section

set_option maxRecDepth 16384

noncomputable section

namespace Cert.KernelIdeal.Token

open Idealize.ShloMosaic Idealize.ShloMosaic.TcCoe Idealize.SL.Sem
open Cert.KernelIdeal Cert.KernelIdeal.Gen

variable {F : FTy → Type} [FloatOps F] [Named F]

/-- The reciprocal of the number of elements of a token's query heads. -/
abbrev nQ : F .f32 := Named.named κ "inv_n" 0x394CCCCD#32
/-- The reciprocal of the number of elements of a token's key heads. -/
abbrev nK : F .f32 := Scalar.ofBits .f32 0x3A800000#32

variable (F) in
/-- What a block of 128 tokens is computed from: the norms' weights, the scales, the codes, the cosines and the signed
    sines. -/
structure Vals where
  gQ : Vec F S40x128 .f32
  gK : Vec F S8x128 .f32
  dySQ : Vec F S1x40x128 .f32
  xSQ : Vec F S1x40x128 .f32
  dySK : Vec F S1x8x128 .f32
  xSK : Vec F S1x8x128 .f32
  dyQ : Vec F S5120x128 .fp8e5m2
  xQ : Vec F S5120x128 .fp8e4m3
  dyK : Vec F S1024x128 .fp8e5m2
  xK : Vec F S1024x128 .fp8e4m3
  cos : Vec F S128x128 .f32
  sin : Vec F S128x128 .f32

namespace Vals

variable (V : Vals F) (k : Fin k0_t1_loop.trips) (n : ℕ) (hn : n < 8)

/-- How far trip `k` rolls the scales, so that the trip's first token comes to column 0. -/
def amount : BitVec 32 :=
  Scalar.select 0#1
    (Scalar.addi (Scalar.remsi (Scalar.subi 128#32 (Scalar.muli (Scalar.addi 0#32 (Scalar.muli (Scf.iv 0#32 1#32 k) 1#32)) 8#32)) 128#32) 128#32)
    (Scalar.remsi (Scalar.subi 128#32 (Scalar.muli (Scalar.addi 0#32 (Scalar.muli (Scf.iv 0#32 1#32 k) 1#32)) 8#32)) 128#32)

/-- The cosines of token `n` of trip `k`. -/
def cosRow : FVec F S1x128 .f32 :=
  View.ld V.cos (Rect.unit (k0_off1 k (BitVec.ofNat 32 n)) S1x128.size (k0_off1_inb k ⟨n, hn⟩))
/-- The signed sines of token `n` of trip `k`. -/
def sinRow : FVec F S1x128 .f32 :=
  View.ld V.sin (Rect.unit (k0_off1 k (BitVec.ofNat 32 n)) S1x128.size (k0_off1_inb k ⟨n, hn⟩))

/-- Column `n` of an [40, 128] table is a slice of it. -/
theorem sliceColQ (n : ℕ) (hn : n < 8) : S40x128.Slices ![0, n] S40x1 := by
  interval_cases n <;> decide
/-- The query gradient's scales of token `n` of trip `k`: column `n` of the block's scales rolled to the trip's first token. -/
def dyScaleQ : FVec F S40x1 .f32 :=
  extractStridedSlice S40x1 ![0, n]
    (dynamicRotate 1 (amount k) none (shapeCast S40x128 (View.ld V.dySQ (Rect.unit ![0, 0, 0] S1x40x128.size inb_S1x40x128_S1x40x128_0_0_0)) shapeCasts_S1x40x128_S40x128) rotates_S40x128_d1) (sliceColQ n hn)
/-- The query scales of token `n` of trip `k`. -/
def xScaleQ : FVec F S40x1 .f32 :=
  extractStridedSlice S40x1 ![0, n]
    (dynamicRotate 1 (amount k) none (shapeCast S40x128 (View.ld V.xSQ (Rect.unit ![0, 0, 0] S1x40x128.size inb_S1x40x128_S1x40x128_0_0_0)) shapeCasts_S1x40x128_S40x128) rotates_S40x128_d1) (sliceColQ n hn)
/-- The query gradient's codes of token `n` of trip `k`. -/
def dyRowsQ : FVec F S40x128 .fp8e5m2 :=
  View.ld V.dyQ (Rect.unit (k0_off2 k (BitVec.ofNat 32 n)) S40x128.size (k0_off2_inb k ⟨n, hn⟩))
/-- The query codes of token `n` of trip `k`. -/
def xRowsQ : FVec F S40x128 .fp8e4m3 :=
  View.ld V.xQ (Rect.unit (k0_off2 k (BitVec.ofNat 32 n)) S40x128.size (k0_off2_inb k ⟨n, hn⟩))
/-- The query input gradient of token `n` of trip `k`. -/
def dxQ : FVec F S40x128 .bf16 :=
  Token.dx (H := 40) fitsQ nQ (V.dyScaleQ k n hn) (V.xScaleQ k n hn) (V.cosRow k n hn) (V.sinRow k n hn) (V.dyRowsQ k n hn) (V.xRowsQ k n hn)
    (View.ld V.gQ (Rect.unit ![0, 0] S40x128.size inb_S40x128_S40x128_0_0))
/-- What token `n` of trip `k` adds to the gradient of the query norm's weights. -/
def dgQ : FVec F S40x128 .f32 :=
  Token.dg (H := 40) fitsQ nQ (V.dyScaleQ k n hn) (V.xScaleQ k n hn) (V.cosRow k n hn) (V.sinRow k n hn) (V.dyRowsQ k n hn) (V.xRowsQ k n hn)
/-- The query norm's gradient `x` after the first `n` tokens of trip `k`. -/
def sumQ (x : FVec F S40x128 .f32) : (n : ℕ) → n ≤ 8 → FVec F S40x128 .f32
  | 0, _ => x
  | n + 1, h => addf (sumQ x n (Nat.le_of_succ_le h)) (V.dgQ k n h)
/-- The store of token `n` of trip `k` into the query input gradient. -/
def pieceQ : View.Piece (Elt F) S5120x128 .bf16 :=
  ⟨Rect.unit (k0_off2 k (BitVec.ofNat 32 n)) S40x128.size (k0_off2_inb k ⟨n, hn⟩), V.dxQ k n hn⟩

/-- Column `n` of an [8, 128] table is a slice of it. -/
theorem sliceColK (n : ℕ) (hn : n < 8) : S8x128.Slices ![0, n] S8x1 := by
  interval_cases n <;> decide
/-- The key gradient's scales of token `n` of trip `k`: column `n` of the block's scales rolled to the trip's first token. -/
def dyScaleK : FVec F S8x1 .f32 :=
  extractStridedSlice S8x1 ![0, n]
    (dynamicRotate 1 (amount k) none (shapeCast S8x128 (View.ld V.dySK (Rect.unit ![0, 0, 0] S1x8x128.size inb_S1x8x128_S1x8x128_0_0_0)) shapeCasts_S1x8x128_S8x128) rotates_S8x128_d1) (sliceColK n hn)
/-- The key scales of token `n` of trip `k`. -/
def xScaleK : FVec F S8x1 .f32 :=
  extractStridedSlice S8x1 ![0, n]
    (dynamicRotate 1 (amount k) none (shapeCast S8x128 (View.ld V.xSK (Rect.unit ![0, 0, 0] S1x8x128.size inb_S1x8x128_S1x8x128_0_0_0)) shapeCasts_S1x8x128_S8x128) rotates_S8x128_d1) (sliceColK n hn)
/-- The key gradient's codes of token `n` of trip `k`. -/
def dyRowsK : FVec F S8x128 .fp8e5m2 :=
  View.ld V.dyK (Rect.unit (k0_off3 k (BitVec.ofNat 32 n)) S8x128.size (k0_off3_inb k ⟨n, hn⟩))
/-- The key codes of token `n` of trip `k`. -/
def xRowsK : FVec F S8x128 .fp8e4m3 :=
  View.ld V.xK (Rect.unit (k0_off3 k (BitVec.ofNat 32 n)) S8x128.size (k0_off3_inb k ⟨n, hn⟩))
/-- The key input gradient of token `n` of trip `k`. -/
def dxK : FVec F S8x128 .bf16 :=
  Token.dx (H := 8) fitsK nK (V.dyScaleK k n hn) (V.xScaleK k n hn) (V.cosRow k n hn) (V.sinRow k n hn) (V.dyRowsK k n hn) (V.xRowsK k n hn)
    (View.ld V.gK (Rect.unit ![0, 0] S8x128.size inb_S8x128_S8x128_0_0))
/-- What token `n` of trip `k` adds to the gradient of the key norm's weights. -/
def dgK : FVec F S8x128 .f32 :=
  Token.dg (H := 8) fitsK nK (V.dyScaleK k n hn) (V.xScaleK k n hn) (V.cosRow k n hn) (V.sinRow k n hn) (V.dyRowsK k n hn) (V.xRowsK k n hn)
/-- The key norm's gradient `x` after the first `n` tokens of trip `k`. -/
def sumK (x : FVec F S8x128 .f32) : (n : ℕ) → n ≤ 8 → FVec F S8x128 .f32
  | 0, _ => x
  | n + 1, h => addf (sumK x n (Nat.le_of_succ_le h)) (V.dgK k n h)
/-- The store of token `n` of trip `k` into the key input gradient. -/
def pieceK : View.Piece (Elt F) S1024x128 .bf16 :=
  ⟨Rect.unit (k0_off3 k (BitVec.ofNat 32 n)) S8x128.size (k0_off3_inb k ⟨n, hn⟩), V.dxK k n hn⟩

end Vals

end Cert.KernelIdeal.Token
-- ==== Proof.Trip.lean ====
/-
  One trip of the kernel's loop: eight tokens, each written to its rows of the two input gradients and added into the
  two weight gradients. What the trip stores is read here off the run as `Token.dx` and `Token.dg` of what it loads.
-/
module

public import proofs.«01_k».proof.Proof.Vals

@[expose] public section

set_option maxRecDepth 16384

noncomputable section

namespace Cert.KernelIdeal.Token

open Idealize.ShloMosaic Idealize.ShloMosaic.TcCoe Idealize.SL.Sem
open Cert.KernelIdeal Cert.KernelIdeal.Gen

variable {F : FTy → Type} [FloatOps F] [Named F]

variable (F) in
/-- What the loop runs over: the body's buffers, and the contents of those it only reads. -/
structure Bufs where
  𝒱 : Variants
  c : Dev nD
  bd : Option 𝒱.V
  i : grid0.Coords
  arg1 : Memref sig .tc .vmem S128x1 .i32
  harg1 : arg1.IsWhole
  arg2 : Memref sig .tc .vmem S1x128 .f32
  harg2 : arg2.IsWhole
  arg3 : Memref sig .tc .vmem S1x128 .f32
  harg3 : arg3.IsWhole
  arg4 : Memref sig .tc .vmem S40x128 .f32
  harg4 : arg4.IsWhole
  arg5 : Memref sig .tc .vmem S8x128 .f32
  harg5 : arg5.IsWhole
  arg6 : Memref sig .tc .vmem S1x40x128 .f32
  harg6 : arg6.IsWhole
  arg7 : Memref sig .tc .vmem S1x40x128 .f32
  harg7 : arg7.IsWhole
  arg8 : Memref sig .tc .vmem S1x8x128 .f32
  harg8 : arg8.IsWhole
  arg9 : Memref sig .tc .vmem S1x8x128 .f32
  harg9 : arg9.IsWhole
  arg10 : Memref sig .tc .vmem S5120x128 .fp8e5m2
  harg10 : arg10.IsWhole
  arg11 : Memref sig .tc .vmem S5120x128 .fp8e4m3
  harg11 : arg11.IsWhole
  arg12 : Memref sig .tc .vmem S1024x128 .fp8e5m2
  harg12 : arg12.IsWhole
  arg13 : Memref sig .tc .vmem S1024x128 .fp8e4m3
  harg13 : arg13.IsWhole
  arg14 : Memref sig .tc .vmem S5120x128 .bf16
  harg14 : arg14.IsWhole
  arg15 : Memref sig .tc .vmem S1024x128 .bf16
  harg15 : arg15.IsWhole
  arg16 : Memref sig .tc .vmem S40x128 .f32
  harg16 : arg16.IsWhole
  arg17 : Memref sig .tc .vmem S8x128 .f32
  harg17 : arg17.IsWhole
  arg18 : Memref sig .tc .vmem S128x128 .f32
  harg18 : arg18.IsWhole
  arg19 : Memref sig .tc .vmem S128x128 .f32
  harg19 : arg19.IsWhole
  X_arg4 : BufTy.Contents (Elt F) arg4.view.ty
  X_arg5 : BufTy.Contents (Elt F) arg5.view.ty
  X_arg6 : BufTy.Contents (Elt F) arg6.view.ty
  X_arg7 : BufTy.Contents (Elt F) arg7.view.ty
  X_arg8 : BufTy.Contents (Elt F) arg8.view.ty
  X_arg9 : BufTy.Contents (Elt F) arg9.view.ty
  X_arg10 : BufTy.Contents (Elt F) arg10.view.ty
  X_arg11 : BufTy.Contents (Elt F) arg11.view.ty
  X_arg12 : BufTy.Contents (Elt F) arg12.view.ty
  X_arg13 : BufTy.Contents (Elt F) arg13.view.ty
  X_arg18 : BufTy.Contents (Elt F) arg18.view.ty
  X_arg19 : BufTy.Contents (Elt F) arg19.view.ty

namespace Bufs

variable (B : Bufs F) (k : Fin k0_t1_loop.trips)

/-- The run of trip `k`. -/
abbrev trip := trip_k0_t1 (F := F) B.𝒱 B.c B.bd B.i B.arg1 B.harg1 B.arg2 B.harg2 B.arg3 B.harg3 B.arg4 B.harg4 B.arg5 B.harg5 B.arg6 B.harg6 B.arg7 B.harg7 B.arg8 B.harg8 B.arg9 B.harg9 B.arg10 B.harg10 B.arg11 B.harg11 B.arg12 B.harg12 B.arg13 B.harg13 B.arg14 B.harg14 B.arg15 B.harg15 B.arg16 B.harg16 B.arg17 B.harg17 B.arg18 B.harg18 B.arg19 B.harg19 B.X_arg4 B.X_arg5 B.X_arg6 B.X_arg7 B.X_arg8 B.X_arg9 B.X_arg10 B.X_arg11 B.X_arg12 B.X_arg13 B.X_arg18 B.X_arg19 k

/-- The values the buffers hold. -/
def vals : Vals F where
  gQ := B.arg4.view.read (Elt F) B.X_arg4
  gK := B.arg5.view.read (Elt F) B.X_arg5
  dySQ := B.arg6.view.read (Elt F) B.X_arg6
  xSQ := B.arg7.view.read (Elt F) B.X_arg7
  dySK := B.arg8.view.read (Elt F) B.X_arg8
  xSK := B.arg9.view.read (Elt F) B.X_arg9
  dyQ := B.arg10.view.read (Elt F) B.X_arg10
  xQ := B.arg11.view.read (Elt F) B.X_arg11
  dyK := B.arg12.view.read (Elt F) B.X_arg12
  xK := B.arg13.view.read (Elt F) B.X_arg13
  cos := B.arg18.view.read (Elt F) B.X_arg18
  sin := B.arg19.view.read (Elt F) B.X_arg19

/-- The offsets of a whole view are zero. -/
theorem off00 : (![0, 0] : Fin 2 → ℕ) = fun _ => 0 := by
  funext i
  fin_cases i <;> rfl

omit [Named F] in
/-- A load of a whole view after a store of the whole view reads what was stored last. -/
theorem readCov_cons_whole {sig : RefSig} {κ : Kind} {sp : Space} {S : Shape} {e : EltTy} {v : View sig κ sp S e}
    {off : Fin S.rank → ℕ} (h : off = fun _ => 0) {inb : ∀ a, off a + S.size a ≤ S.size a}
    {w : (Rect.unit off S.size inb).shape.Idx → Elt F e} {L : List (View.Piece (Elt F) S e)} :
    v.readCov (⟨Rect.unit off S.size inb, w⟩ :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl,
    View.ld_unit_zero rfl]

/-- What a trip stores into the query input gradient: one block of rows for each of its eight tokens. -/
theorem trip_Q (f14 f15 f16 f17) (L) (hL : L = (B.trip k).1 f14 f15 f16 f17) : L =
    [B.vals.pieceQ k 7 (by decide), B.vals.pieceQ k 6 (by decide), B.vals.pieceQ k 5 (by decide), B.vals.pieceQ k 4 (by decide), B.vals.pieceQ k 3 (by decide), B.vals.pieceQ k 2 (by decide), B.vals.pieceQ k 1 (by decide), B.vals.pieceQ k 0 (by decide)] := by
  unfold trip trip_k0_t1 at hL
  dsimp only at hL
  rw [hL]
  clear hL
  refine congrArg₂ List.cons ?_ (congrArg₂ List.cons ?_ (congrArg₂ List.cons ?_ (congrArg₂ List.cons ?_
    (congrArg₂ List.cons ?_ (congrArg₂ List.cons ?_ (congrArg₂ List.cons ?_ (congrArg₂ List.cons ?_ rfl)))))))
  all_goals
    refine congrArg (Sigma.mk _) ?_
    sl_unfold_run_names
    simp only [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, Vals.dxQ, Vals.dxK, Vals.dgQ, Vals.dgK, Vals.amount, Vals.cosRow, Vals.sinRow, Vals.dyScaleQ, Vals.xScaleQ,
      Vals.dyRowsQ, Vals.xRowsQ, Vals.dyScaleK, Vals.xScaleK, Vals.dyRowsK, Vals.xRowsK, Token.dx, Token.dg, Token.xhat,
      Token.rstd, Token.total, Token.dn, Token.dyin, Token.xin, View.readAt_eq_ld, vals]

/-- What a trip stores into the key input gradient: one block of rows for each of its eight tokens. -/
theorem trip_K (f14 f15 f16 f17) (L) (hL : L = (B.trip k).2.1 f14 f15 f16 f17) : L =
    [B.vals.pieceK k 7 (by decide), B.vals.pieceK k 6 (by decide), B.vals.pieceK k 5 (by decide), B.vals.pieceK k 4 (by decide), B.vals.pieceK k 3 (by decide), B.vals.pieceK k 2 (by decide), B.vals.pieceK k 1 (by decide), B.vals.pieceK k 0 (by decide)] := by
  unfold trip trip_k0_t1 at hL
  dsimp only at hL
  rw [hL]
  clear hL
  refine congrArg₂ List.cons ?_ (congrArg₂ List.cons ?_ (congrArg₂ List.cons ?_ (congrArg₂ List.cons ?_
    (congrArg₂ List.cons ?_ (congrArg₂ List.cons ?_ (congrArg₂ List.cons ?_ (congrArg₂ List.cons ?_ rfl)))))))
  all_goals
    refine congrArg (Sigma.mk _) ?_
    sl_unfold_run_names
    simp only [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, Vals.dxQ, Vals.dxK, Vals.dgQ, Vals.dgK, Vals.amount, Vals.cosRow, Vals.sinRow, Vals.dyScaleQ, Vals.xScaleQ,
      Vals.dyRowsQ, Vals.xRowsQ, Vals.dyScaleK, Vals.xScaleK, Vals.dyRowsK, Vals.xRowsK, Token.dx, Token.dg, Token.xhat,
      Token.rstd, Token.total, Token.dn, Token.dyin, Token.xin, View.readAt_eq_ld, vals]

/-- What a trip leaves of the query norm's gradient: what it found, plus what each of its eight tokens adds. -/
theorem trip_sumQ (f14 f15 f16 f17) (L) (hL : L = (B.trip k).2.2.1 f14 f15 f16 f17) :
    ∃ L', L = ⟨Rect.unit ![0, 0] S40x128.size inb_S40x128_S40x128_0_0,
      B.vals.sumQ k (B.arg16.view.read (Elt F) f16) 8 (le_refl 8)⟩ :: L' := by
  unfold trip trip_k0_t1 at hL
  dsimp only at hL
  refine ⟨_, hL.trans (congrArg₂ List.cons (congrArg (Sigma.mk _) ?_) rfl)⟩
  simp only [trip_k0_t1.sl.v977, trip_k0_t1.sl.v855, trip_k0_t1.sl.v733, trip_k0_t1.sl.v611, trip_k0_t1.sl.v489, trip_k0_t1.sl.v367, trip_k0_t1.sl.v245, trip_k0_t1.sl.HW_arg16_1, trip_k0_t1.sl.HW_arg16_2, trip_k0_t1.sl.HW_arg16_3, trip_k0_t1.sl.HW_arg16_4, trip_k0_t1.sl.HW_arg16_5, trip_k0_t1.sl.HW_arg16_6, trip_k0_t1.sl.HW_arg16_7, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, readCov_cons_whole (S := S40x128) off00, shapeCast_self, View.readAt_eq_ld, View.ld_unit_zero (S := S40x128) off00]
  simp only [Vals.sumQ]
  refine congrArg₂ addf (congrArg₂ addf (congrArg₂ addf (congrArg₂ addf (congrArg₂ addf (congrArg₂ addf (congrArg₂ addf
    (congrArg₂ addf rfl ?_) ?_) ?_) ?_) ?_) ?_) ?_) ?_
  all_goals
    sl_unfold_run_names
    simp only [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, Vals.dxQ, Vals.dxK, Vals.dgQ, Vals.dgK, Vals.amount, Vals.cosRow, Vals.sinRow, Vals.dyScaleQ, Vals.xScaleQ,
      Vals.dyRowsQ, Vals.xRowsQ, Vals.dyScaleK, Vals.xScaleK, Vals.dyRowsK, Vals.xRowsK, Token.dx, Token.dg, Token.xhat,
      Token.rstd, Token.total, Token.dn, Token.dyin, Token.xin, View.readAt_eq_ld, vals, shapeCast_self, View.ld_unit_zero (S := S40x128) off00]

/-- What a trip leaves of the key norm's gradient: what it found, plus what each of its eight tokens adds. -/
theorem trip_sumK (f14 f15 f16 f17) (L) (hL : L = (B.trip k).2.2.2.1 f14 f15 f16 f17) :
    ∃ L', L = ⟨Rect.unit ![0, 0] S8x128.size inb_S8x128_S8x128_0_0,
      B.vals.sumK k (B.arg17.view.read (Elt F) f17) 8 (le_refl 8)⟩ :: L' := by
  unfold trip trip_k0_t1 at hL
  dsimp only at hL
  refine ⟨_, hL.trans (congrArg₂ List.cons (congrArg (Sigma.mk _) ?_) rfl)⟩
  simp only [trip_k0_t1.sl.v1040, trip_k0_t1.sl.v1039, trip_k0_t1.sl.v1038, trip_k0_t1.sl.v918, trip_k0_t1.sl.v917, trip_k0_t1.sl.v916, trip_k0_t1.sl.v796, trip_k0_t1.sl.v795, trip_k0_t1.sl.v794, trip_k0_t1.sl.v674, trip_k0_t1.sl.v673, trip_k0_t1.sl.v672, trip_k0_t1.sl.v552, trip_k0_t1.sl.v551, trip_k0_t1.sl.v550, trip_k0_t1.sl.v430, trip_k0_t1.sl.v429, trip_k0_t1.sl.v428, trip_k0_t1.sl.v308, trip_k0_t1.sl.v307, trip_k0_t1.sl.v306, trip_k0_t1.sl.v186, trip_k0_t1.sl.v185, trip_k0_t1.sl.HW_arg17_1, trip_k0_t1.sl.HW_arg17_2, trip_k0_t1.sl.HW_arg17_3, trip_k0_t1.sl.HW_arg17_4, trip_k0_t1.sl.HW_arg17_5, trip_k0_t1.sl.HW_arg17_6, trip_k0_t1.sl.HW_arg17_7, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, readCov_cons_whole (S := S8x128) off00, shapeCast_self, View.readAt_eq_ld, View.ld_unit_zero (S := S8x128) off00]
  simp only [Vals.sumK]
  refine congrArg₂ addf (congrArg₂ addf (congrArg₂ addf (congrArg₂ addf (congrArg₂ addf (congrArg₂ addf (congrArg₂ addf
    (congrArg₂ addf rfl ?_) ?_) ?_) ?_) ?_) ?_) ?_) ?_
  all_goals
    sl_unfold_run_names
    simp only [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, Vals.dxQ, Vals.dxK, Vals.dgQ, Vals.dgK, Vals.amount, Vals.cosRow, Vals.sinRow, Vals.dyScaleQ, Vals.xScaleQ,
      Vals.dyRowsQ, Vals.xRowsQ, Vals.dyScaleK, Vals.xScaleK, Vals.dyRowsK, Vals.xRowsK, Token.dx, Token.dg, Token.xhat,
      Token.rstd, Token.total, Token.dn, Token.dyin, Token.xin, View.readAt_eq_ld, vals, shapeCast_self, View.ld_unit_zero (S := S8x128) off00]

end Bufs

end Cert.KernelIdeal.Token
-- ==== Proof.Loop.lean ====
/-
  The whole loop over a block's 128 tokens: sixteen trips of eight tokens. The two input gradients are filled token by
  token, each token's rows once; the two weight gradients gather what every token adds, in the tokens' order.
-/
module

public import proofs.«01_k».proof.Proof.Trip
public import Idealize.ShloMosaic.Lib.VecWindow
public import Idealize.ShloMosaic.Lib.Pipeline.ValueKit

@[expose] public section

set_option maxRecDepth 16384

noncomputable section

namespace Cert.KernelIdeal.Token

open Idealize.ShloMosaic Idealize.ShloMosaic.TcCoe Idealize.SL.Sem
open Cert.KernelIdeal Cert.KernelIdeal.Gen

variable {F : FTy → Type} [FloatOps F] [Named F]

/-- The loop makes sixteen trips. -/
theorem trips_eq : k0_t1_loop.trips = 16 := by decide +kernel

/-- The blocks of a block's 128 tokens one below the other, `H` rows a token. -/
def stack {α : Type} {H R : ℕ} (hH : 0 < H) (hR : R = 128 * H)
    (blk : Fin k0_t1_loop.trips → (n : ℕ) → n < 8 → (Rows H).Idx → α) (y : (Rows R).Idx) : α :=
  blk ⟨(y 0).val / H / 8, by
      have h : (y 0).val < R := (y 0).isLt
      rw [trips_eq, Nat.div_lt_iff_lt_mul (by decide), Nat.div_lt_iff_lt_mul hH]
      subst hR
      omega⟩ ((y 0).val / H % 8) (Nat.mod_lt _ (by decide))
    (ix2 ⟨(y 0).val % H, Nat.mod_lt _ hH⟩ ⟨(y 1).val, (y 1).isLt⟩)

/-- Stores of every token's block at the token's rows leave the blocks one below the other. -/
theorem read_stack {sig : RefSig} {κ : Kind} {sp : Space} {e : EltTy} {H R : ℕ} (hH : 0 < H) (hR : R = 128 * H)
    (v : View sig κ sp (Rows R) e) (f : v.ty.Contents (Elt F)) (L : List (View.Piece (Elt F) (Rows R) e))
    (off : Fin k0_t1_loop.trips → ℕ → Fin 2 → ℕ)
    (inb : ∀ k n, n < 8 → ∀ a, off k n a + (Rows H).size a ≤ (Rows R).size a)
    (hoff : ∀ k n, n < 8 → off k n = ![(8 * k.val + n) * H, 0])
    (blk : Fin k0_t1_loop.trips → (n : ℕ) → n < 8 → (Rows H).Idx → Elt F e)
    (hsub : ∀ p ∈ L, ∃ k n, ∃ hn : n < 8, p = ⟨Rect.unit (s := Rows R) (off k n) (Rows H).size (inb k n hn), blk k n hn⟩)
    (hsup : ∀ k n, ∀ hn : n < 8, (⟨Rect.unit (s := Rows R) (off k n) (Rows H).size (inb k n hn), blk k n hn⟩ :
      View.Piece (Elt F) (Rows R) e) ∈ L) :
    v.read (Elt F) (v.writes (Elt F) f L) = stack hH hR blk := by
  funext y
  refine View.read_writes_apply_of_pieces v f (stack hH hR blk) L ?_ y ?_
  · intro p hp x
    obtain ⟨k, n, hn, rfl⟩ := hsub p hp
    have h0 : ((Rect.unit (s := Rows R) (off k n) (Rows H).size (inb k n hn)).emb x 0).val = (8 * k.val + n) * H + (x 0).val := by
      exact (congrArg (· + 1 * (x 0).val) (congrFun (hoff k n hn) 0)).trans (congrArg _ (Nat.one_mul _))
    have h1 : ((Rect.unit (s := Rows R) (off k n) (Rows H).size (inb k n hn)).emb x 1).val = (x 1).val := by
      exact (congrArg (· + 1 * (x 1).val) (congrFun (hoff k n hn) 1)).trans ((Nat.zero_add _).trans (Nat.one_mul _))
    have hx : (x 0).val < H := (x 0).isLt
    have hd : ((8 * k.val + n) * H + (x 0).val) / H = 8 * k.val + n := by
      rw [Nat.add_comm, Nat.add_mul_div_right _ _ hH, Nat.div_eq_of_lt hx, Nat.zero_add]
    have hm : ((8 * k.val + n) * H + (x 0).val) % H = (x 0).val := by
      rw [Nat.add_comm, Nat.add_mul_mod_self_right, Nat.mod_eq_of_lt hx]
    have key : ∀ (k' : Fin k0_t1_loop.trips) (n' : ℕ) (hn' : n' < 8) (x' : (Rows H).Idx), k' = k → n' = n → x' = x →
        blk k n hn x = blk k' n' hn' x' := by
      rintro k' n' hn' x' rfl rfl rfl
      rfl
    refine key _ _ _ _ (Fin.ext ?_) ?_ (funext fun a => Fin.ext ?_)
    · simp only [h0, hd]
      omega
    · simp only [h0, hd]
      omega
    · fin_cases a
      · show _ % H = _
        rw [h0, hm]
        rfl
      · exact h1
  · have hy : (y 0).val < R := (y 0).isLt
    have hq : (y 0).val / H < 128 := by
      rw [Nat.div_lt_iff_lt_mul hH]
      omega
    have hk : (y 0).val / H / 8 < k0_t1_loop.trips := by
      rw [trips_eq]
      omega
    refine ⟨_, hsup ⟨(y 0).val / H / 8, hk⟩ ((y 0).val / H % 8) (Nat.mod_lt _ (by decide)), ?_⟩
    rw [Rect.mem_set_unit, hoff _ _ (Nat.mod_lt _ (by decide))]
    have hdm : (8 * ((y 0).val / H / 8) + (y 0).val / H % 8) = (y 0).val / H := by omega
    have hde := Nat.div_add_mod' (y 0).val H
    have hlt := Nat.mod_lt (y 0).val hH
    intro a
    fin_cases a
    · show (8 * ((y 0).val / H / 8) + (y 0).val / H % 8) * H ≤ (y 0).val ∧ (y 0).val < (8 * ((y 0).val / H / 8) + (y 0).val / H % 8) * H + H
      rw [hdm]
      omega
    · show 0 ≤ (y 1).val ∧ (y 1).val < 0 + 128
      have : (y 1).val < 128 := (y 1).isLt
      omega

namespace Vals

variable (V : Vals F)

/-- The block's query input gradient. -/
def outQ : FVec F S5120x128 .bf16 := stack (H := 40) (R := 5120) (by decide) (by decide) V.dxQ
/-- The block's key input gradient. -/
def outK : FVec F S1024x128 .bf16 := stack (H := 8) (R := 1024) (by decide) (by decide) V.dxK
/-- The query norm's gradient `x` after the first `k` trips. -/
def accQ (x : FVec F S40x128 .f32) : (k : ℕ) → k ≤ k0_t1_loop.trips → FVec F S40x128 .f32
  | 0, _ => x
  | k + 1, h => V.sumQ ⟨k, h⟩ (accQ x k (Nat.le_of_succ_le h)) 8 (le_refl 8)
/-- The key norm's gradient `x` after the first `k` trips. -/
def accK (x : FVec F S8x128 .f32) : (k : ℕ) → k ≤ k0_t1_loop.trips → FVec F S8x128 .f32
  | 0, _ => x
  | k + 1, h => V.sumK ⟨k, h⟩ (accK x k (Nat.le_of_succ_le h)) 8 (le_refl 8)

end Vals

namespace Bufs

variable (B : Bufs F) (G14 : BufTy.Contents (Elt F) B.arg14.view.ty) (G15 : BufTy.Contents (Elt F) B.arg15.view.ty)
  (G16 : BufTy.Contents (Elt F) B.arg16.view.ty) (G17 : BufTy.Contents (Elt F) B.arg17.view.ty)

/-- What the loop's first `k` trips have stored. -/
abbrev pb (k : ℕ) := pb_k0_t1 (F := F) B.𝒱 B.c B.bd B.i B.arg1 B.harg1 B.arg2 B.harg2 B.arg3 B.harg3 B.arg4 B.harg4 B.arg5 B.harg5 B.arg6 B.harg6 B.arg7 B.harg7 B.arg8 B.harg8 B.arg9 B.harg9 B.arg10 B.harg10 B.arg11 B.harg11 B.arg12 B.harg12 B.arg13 B.harg13 B.arg14 B.harg14 B.arg15 B.harg15 B.arg16 B.harg16 B.arg17 B.harg17 B.arg18 B.harg18 B.arg19 B.harg19 B.X_arg4 B.X_arg5 B.X_arg6 B.X_arg7 B.X_arg8 B.X_arg9 B.X_arg10 B.X_arg11 B.X_arg12 B.X_arg13 B.X_arg18 B.X_arg19 G14 G15 G16 G17 k

/-- One more trip. -/
theorem pb_succ (k : Fin k0_t1_loop.trips) : ∃ f14 f15, B.pb G14 G15 G16 G17 (k.val + 1) =
    ((B.trip k).1 f14 f15 (B.arg16.view.writes (Elt F) G16 (B.pb G14 G15 G16 G17 k.val).2.2.1) (B.arg17.view.writes (Elt F) G17 (B.pb G14 G15 G16 G17 k.val).2.2.2) ++ (B.pb G14 G15 G16 G17 k.val).1,
     (B.trip k).2.1 f14 f15 (B.arg16.view.writes (Elt F) G16 (B.pb G14 G15 G16 G17 k.val).2.2.1) (B.arg17.view.writes (Elt F) G17 (B.pb G14 G15 G16 G17 k.val).2.2.2) ++ (B.pb G14 G15 G16 G17 k.val).2.1,
     (B.trip k).2.2.1 f14 f15 (B.arg16.view.writes (Elt F) G16 (B.pb G14 G15 G16 G17 k.val).2.2.1) (B.arg17.view.writes (Elt F) G17 (B.pb G14 G15 G16 G17 k.val).2.2.2) ++ (B.pb G14 G15 G16 G17 k.val).2.2.1,
     (B.trip k).2.2.2.1 f14 f15 (B.arg16.view.writes (Elt F) G16 (B.pb G14 G15 G16 G17 k.val).2.2.1) (B.arg17.view.writes (Elt F) G17 (B.pb G14 G15 G16 G17 k.val).2.2.2) ++ (B.pb G14 G15 G16 G17 k.val).2.2.2) :=
  ⟨_, _, pb_k0_t1_succ ..⟩

/-- Membership in a trip's eight stores. -/
theorem mem_eight {α : Type} (g : (n : ℕ) → n < 8 → α) (p : α) :
    p ∈ [g 7 (by decide), g 6 (by decide), g 5 (by decide), g 4 (by decide), g 3 (by decide), g 2 (by decide), g 1 (by decide), g 0 (by decide)] ↔
      ∃ n, ∃ hn : n < 8, p = g n hn := by
  constructor
  · intro h
    simp only [List.mem_cons, List.not_mem_nil, or_false] at h
    rcases h with h | h | h | h | h | h | h | h <;> exact ⟨_, _, h⟩
  · rintro ⟨n, hn, rfl⟩
    simp only [List.mem_cons, List.not_mem_nil, or_false]
    interval_cases n <;> simp

/-- What the loop's first `k` trips have stored into the query input gradient: the blocks of their tokens. -/
theorem mem_pbQ : ∀ k, k ≤ k0_t1_loop.trips → ∀ p, p ∈ (B.pb G14 G15 G16 G17 k).1 ↔
    ∃ k' : Fin k0_t1_loop.trips, k'.val < k ∧ ∃ n, ∃ hn : n < 8, p = B.vals.pieceQ k' n hn := by
  intro k
  induction k with
  | zero => exact fun _ p => ⟨fun h => absurd h List.not_mem_nil, fun ⟨_, h, _⟩ => absurd h (Nat.not_lt_zero _)⟩
  | succ k ih =>
    intro hk p
    obtain ⟨f14, f15, h⟩ := B.pb_succ G14 G15 G16 G17 ⟨k, hk⟩
    rw [h]
    show p ∈ _ ++ _ ↔ _
    rw [List.mem_append, ih (Nat.le_of_succ_le hk), B.trip_Q ⟨k, hk⟩ _ _ _ _ _ rfl, mem_eight (B.vals.pieceQ ⟨k, hk⟩)]
    constructor
    · rintro (⟨n, hn, rfl⟩ | ⟨k', h', n, hn, rfl⟩)
      · exact ⟨_, Nat.lt_succ_self k, n, hn, rfl⟩
      · exact ⟨k', Nat.lt_succ_of_lt h', n, hn, rfl⟩
    · rintro ⟨k', h', n, hn, rfl⟩
      rcases Nat.lt_succ_iff_lt_or_eq.1 h' with h' | h'
      · exact .inr ⟨k', h', n, hn, rfl⟩
      · obtain rfl : k' = ⟨k, hk⟩ := Fin.ext h'
        exact .inl ⟨n, hn, rfl⟩

/-- What the loop's first `k` trips have stored into the key input gradient: the blocks of their tokens. -/
theorem mem_pbK : ∀ k, k ≤ k0_t1_loop.trips → ∀ p, p ∈ (B.pb G14 G15 G16 G17 k).2.1 ↔
    ∃ k' : Fin k0_t1_loop.trips, k'.val < k ∧ ∃ n, ∃ hn : n < 8, p = B.vals.pieceK k' n hn := by
  intro k
  induction k with
  | zero => exact fun _ p => ⟨fun h => absurd h List.not_mem_nil, fun ⟨_, h, _⟩ => absurd h (Nat.not_lt_zero _)⟩
  | succ k ih =>
    intro hk p
    obtain ⟨f14, f15, h⟩ := B.pb_succ G14 G15 G16 G17 ⟨k, hk⟩
    rw [h]
    show p ∈ _ ++ _ ↔ _
    rw [List.mem_append, ih (Nat.le_of_succ_le hk), B.trip_K ⟨k, hk⟩ _ _ _ _ _ rfl, mem_eight (B.vals.pieceK ⟨k, hk⟩)]
    constructor
    · rintro (⟨n, hn, rfl⟩ | ⟨k', h', n, hn, rfl⟩)
      · exact ⟨_, Nat.lt_succ_self k, n, hn, rfl⟩
      · exact ⟨k', Nat.lt_succ_of_lt h', n, hn, rfl⟩
    · rintro ⟨k', h', n, hn, rfl⟩
      rcases Nat.lt_succ_iff_lt_or_eq.1 h' with h' | h'
      · exact .inr ⟨k', h', n, hn, rfl⟩
      · obtain rfl : k' = ⟨k, hk⟩ := Fin.ext h'
        exact .inl ⟨n, hn, rfl⟩

/-- The whole loop leaves the query input gradient's blocks one below the other. -/
theorem read_outQ : B.arg14.view.read (Elt F) (B.arg14.view.writes (Elt F) G14 (B.pb G14 G15 G16 G17 k0_t1_loop.trips).1) = B.vals.outQ :=
  read_stack (e := .bf16) (H := 40) (R := 5120) (by decide) (by decide) _ _ _ (fun k n => k0_off2 k (BitVec.ofNat 32 n)) (fun k n hn => k0_off2_inb k ⟨n, hn⟩)
    (fun k n hn => (k0_off2_eq k ⟨n, hn⟩).trans (by first | rfl | (funext a; fin_cases a <;> simp <;> ring)))
    B.vals.dxQ (fun p hp => by
      obtain ⟨k, -, n, hn, rfl⟩ := (B.mem_pbQ G14 G15 G16 G17 _ (le_refl _) p).1 hp
      exact ⟨k, n, hn, rfl⟩)
    (fun k n hn => (B.mem_pbQ G14 G15 G16 G17 _ (le_refl _) _).2 ⟨k, k.isLt, n, hn, rfl⟩)

/-- The first `k` trips leave of the query norm's gradient what it was plus what each of their tokens adds. -/
theorem read_accQ : ∀ k (hk : k ≤ k0_t1_loop.trips),
    B.arg16.view.read (Elt F) (B.arg16.view.writes (Elt F) G16 (B.pb G14 G15 G16 G17 k).2.2.1) =
      B.vals.accQ (B.arg16.view.read (Elt F) G16) k hk := by
  intro k
  induction k with
  | zero => exact fun _ => rfl
  | succ k ih =>
    intro hk
    obtain ⟨f14, f15, h⟩ := B.pb_succ G14 G15 G16 G17 ⟨k, hk⟩
    obtain ⟨L, hL⟩ := B.trip_sumQ ⟨k, hk⟩ f14 f15 (B.arg16.view.writes (Elt F) G16 (B.pb G14 G15 G16 G17 k).2.2.1)
      (B.arg17.view.writes (Elt F) G17 (B.pb G14 G15 G16 G17 k).2.2.2) _ rfl
    rw [h]
    show View.read _ _ (View.writes _ _ _ (_ ++ _)) = _
    rw [hL, List.cons_append, View.read_writes_full, ih (Nat.le_of_succ_le hk)]
    rfl

/-- The whole loop leaves the key input gradient's blocks one below the other. -/
theorem read_outK : B.arg15.view.read (Elt F) (B.arg15.view.writes (Elt F) G15 (B.pb G14 G15 G16 G17 k0_t1_loop.trips).2.1) = B.vals.outK :=
  read_stack (e := .bf16) (H := 8) (R := 1024) (by decide) (by decide) _ _ _ (fun k n => k0_off3 k (BitVec.ofNat 32 n)) (fun k n hn => k0_off3_inb k ⟨n, hn⟩)
    (fun k n hn => (k0_off3_eq k ⟨n, hn⟩).trans (by first | rfl | (funext a; fin_cases a <;> simp <;> ring)))
    B.vals.dxK (fun p hp => by
      obtain ⟨k, -, n, hn, rfl⟩ := (B.mem_pbK G14 G15 G16 G17 _ (le_refl _) p).1 hp
      exact ⟨k, n, hn, rfl⟩)
    (fun k n hn => (B.mem_pbK G14 G15 G16 G17 _ (le_refl _) _).2 ⟨k, k.isLt, n, hn, rfl⟩)

/-- The first `k` trips leave of the key norm's gradient what it was plus what each of their tokens adds. -/
theorem read_accK : ∀ k (hk : k ≤ k0_t1_loop.trips),
    B.arg17.view.read (Elt F) (B.arg17.view.writes (Elt F) G17 (B.pb G14 G15 G16 G17 k).2.2.2) =
      B.vals.accK (B.arg17.view.read (Elt F) G17) k hk := by
  intro k
  induction k with
  | zero => exact fun _ => rfl
  | succ k ih =>
    intro hk
    obtain ⟨f14, f15, h⟩ := B.pb_succ G14 G15 G16 G17 ⟨k, hk⟩
    obtain ⟨L, hL⟩ := B.trip_sumK ⟨k, hk⟩ f14 f15 (B.arg16.view.writes (Elt F) G16 (B.pb G14 G15 G16 G17 k).2.2.1)
      (B.arg17.view.writes (Elt F) G17 (B.pb G14 G15 G16 G17 k).2.2.2) _ rfl
    rw [h]
    show View.read _ _ (View.writes _ _ _ (_ ++ _)) = _
    rw [hL, List.cons_append, View.read_writes_full, ih (Nat.le_of_succ_le hk)]
    rfl

end Bufs

end Cert.KernelIdeal.Token
-- ==== Proof.Body.lean ====
/-
  What the kernel's body computes at one grid point, as a function of the blocks it is given.
-/
module

public import proofs.«01_k».proof.Proof.Loop

@[expose] public section

set_option maxRecDepth 16384

noncomputable section

namespace Cert.KernelIdeal.Token

open Idealize.ShloMosaic Idealize.ShloMosaic.TcCoe Idealize.SL.Sem
open Cert.KernelIdeal Cert.KernelIdeal.Gen

variable {F : FTy → Type} [FloatOps F] [Named F]

/-- What a grid point's tokens are computed from: its blocks, and the cosine and signed sine tables of its positions. -/
def blockVals (x0 : Vec F S128x1 .i32) (x1 : Vec F S1x128 .f32) (x2 : Vec F S1x128 .f32) (x3 : Vec F S40x128 .f32)
    (x4 : Vec F S8x128 .f32) (x5 : Vec F S1x40x128 .f32) (x6 : Vec F S1x40x128 .f32) (x7 : Vec F S1x8x128 .f32)
    (x8 : Vec F S1x8x128 .f32) (x9 : Vec F S5120x128 .fp8e5m2) (x10 : Vec F S5120x128 .fp8e4m3)
    (x11 : Vec F S1024x128 .fp8e5m2) (x12 : Vec F S1024x128 .fp8e4m3) : Vals F :=
  ⟨x3, x4, x5, x6, x7, x8, x9, x10, x11, x12, k0_pay4 x0 x1, k0_pay5 x0 x1 x2⟩

namespace Vals

/-- The query norm's gradient `x` after a whole block. -/
def endQ (V : Vals F) (x : FVec F S40x128 .f32) : FVec F S40x128 .f32 := V.accQ x k0_t1_loop.trips (le_refl _)
/-- The key norm's gradient `x` after a whole block. -/
def endK (V : Vals F) (x : FVec F S8x128 .f32) : FVec F S8x128 .f32 := V.accK x k0_t1_loop.trips (le_refl _)

end Vals

namespace Bufs

variable (B : Bufs F) (V : Vals F) (G14 : BufTy.Contents (Elt F) B.arg14.view.ty) (G15 : BufTy.Contents (Elt F) B.arg15.view.ty)
  (G16 : BufTy.Contents (Elt F) B.arg16.view.ty) (G17 : BufTy.Contents (Elt F) B.arg17.view.ty)

/-- The values of buffers read one by one. -/
theorem vals_eq {g4 g5 g6 g7 g8 g9 g10 g11 g12 g13 g18 g19}
    (h4 : B.arg4.view.read (Elt F) B.X_arg4 = g4) (h5 : B.arg5.view.read (Elt F) B.X_arg5 = g5)
    (h6 : B.arg6.view.read (Elt F) B.X_arg6 = g6) (h7 : B.arg7.view.read (Elt F) B.X_arg7 = g7)
    (h8 : B.arg8.view.read (Elt F) B.X_arg8 = g8) (h9 : B.arg9.view.read (Elt F) B.X_arg9 = g9)
    (h10 : B.arg10.view.read (Elt F) B.X_arg10 = g10) (h11 : B.arg11.view.read (Elt F) B.X_arg11 = g11)
    (h12 : B.arg12.view.read (Elt F) B.X_arg12 = g12) (h13 : B.arg13.view.read (Elt F) B.X_arg13 = g13)
    (h18 : B.arg18.view.read (Elt F) B.X_arg18 = g18) (h19 : B.arg19.view.read (Elt F) B.X_arg19 = g19) :
    B.vals = ⟨g4, g5, g6, g7, g8, g9, g10, g11, g12, g13, g18, g19⟩ := by
  subst h4 h5 h6 h7 h8 h9 h10 h11 h12 h13 h18 h19
  rfl

/-- The query input gradient after the loop, from the buffers' values. -/
theorem outQ_of (hV : B.vals = V) :
    B.arg14.view.read (Elt F) (B.arg14.view.writes (Elt F) G14 (B.pb G14 G15 G16 G17 k0_t1_loop.trips).1) = V.outQ :=
  hV ▸ B.read_outQ G14 G15 G16 G17
/-- The key input gradient after the loop, from the buffers' values. -/
theorem outK_of (hV : B.vals = V) :
    B.arg15.view.read (Elt F) (B.arg15.view.writes (Elt F) G15 (B.pb G14 G15 G16 G17 k0_t1_loop.trips).2.1) = V.outK :=
  hV ▸ B.read_outK G14 G15 G16 G17
/-- The query norm's gradient after the loop, from the buffers' values and what it was. -/
theorem accQ_of (hV : B.vals = V) {x} (hx : B.arg16.view.read (Elt F) G16 = x) :
    B.arg16.view.read (Elt F) (B.arg16.view.writes (Elt F) G16 (B.pb G14 G15 G16 G17 k0_t1_loop.trips).2.2.1) = V.endQ x := by
  subst hV hx
  exact B.read_accQ G14 G15 G16 G17 _ _
/-- The key norm's gradient after the loop, from the buffers' values and what it was. -/
theorem accK_of (hV : B.vals = V) {x} (hx : B.arg17.view.read (Elt F) G17 = x) :
    B.arg17.view.read (Elt F) (B.arg17.view.writes (Elt F) G17 (B.pb G14 G15 G16 G17 k0_t1_loop.trips).2.2.2) = V.endK x := by
  subst hV hx
  exact B.read_accK G14 G15 G16 G17 _ _

end Bufs

end Cert.KernelIdeal.Token
-- ==== Proof.RunA.lean ====
/-
  The body at a grid point that starts the weight gradients: it clears them, then adds the block's tokens.
-/
module

public import proofs.«01_k».proof.Proof.Gen.KernelIdeal.Frame.Runs
public import proofs.«01_k».proof.Proof.Body

@[expose] public section

set_option maxRecDepth 16384

noncomputable section

namespace Cert.KernelIdeal.Token

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Token.Bufs (off00)
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- The body at a grid point that starts the weight gradients: it clears them, then adds the block's tokens. -/
theorem runA (c : Dev nD) (i : grid0.Coords) (arg1 : Memref sig .tc .vmem S128x1 .i32) (harg1 : arg1.IsWhole) (arg2 : Memref sig .tc .vmem S1x128 .f32) (harg2 : arg2.IsWhole) (arg3 : Memref sig .tc .vmem S1x128 .f32) (harg3 : arg3.IsWhole) (arg4 : Memref sig .tc .vmem S40x128 .f32) (harg4 : arg4.IsWhole) (arg5 : Memref sig .tc .vmem S8x128 .f32) (harg5 : arg5.IsWhole) (arg6 : Memref sig .tc .vmem S1x40x128 .f32) (harg6 : arg6.IsWhole) (arg7 : Memref sig .tc .vmem S1x40x128 .f32) (harg7 : arg7.IsWhole) (arg8 : Memref sig .tc .vmem S1x8x128 .f32) (harg8 : arg8.IsWhole) (arg9 : Memref sig .tc .vmem S1x8x128 .f32) (harg9 : arg9.IsWhole) (arg10 : Memref sig .tc .vmem S5120x128 .fp8e5m2) (harg10 : arg10.IsWhole) (arg11 : Memref sig .tc .vmem S5120x128 .fp8e4m3) (harg11 : arg11.IsWhole) (arg12 : Memref sig .tc .vmem S1024x128 .fp8e5m2) (harg12 : arg12.IsWhole) (arg13 : Memref sig .tc .vmem S1024x128 .fp8e4m3) (harg13 : arg13.IsWhole) (arg14 : Memref sig .tc .vmem S5120x128 .bf16) (harg14 : arg14.IsWhole) (arg15 : Memref sig .tc .vmem S1024x128 .bf16) (harg15 : arg15.IsWhole) (arg16 : Memref sig .tc .vmem S40x128 .f32) (harg16 : arg16.IsWhole) (arg17 : Memref sig .tc .vmem S8x128 .f32) (harg17 : arg17.IsWhole) (arg18 : Memref sig .tc .vmem S128x128 .f32) (harg18 : arg18.IsWhole) (arg19 : Memref sig .tc .vmem S128x128 .f32) (harg19 : arg19.IsWhole) (hc0 : cond0_0 i)
    (x0 : Vec F S128x1 .i32) (x1 : Vec F S1x128 .f32) (x2 : Vec F S1x128 .f32) (x3 : Vec F S40x128 .f32) (x4 : Vec F S8x128 .f32) (x5 : Vec F S1x40x128 .f32) (x6 : Vec F S1x40x128 .f32) (x7 : Vec F S1x8x128 .f32) (x8 : Vec F S1x8x128 .f32) (x9 : Vec F S5120x128 .fp8e5m2) (x10 : Vec F S5120x128 .fp8e4m3) (x11 : Vec F S1024x128 .fp8e5m2) (x12 : Vec F S1024x128 .fp8e4m3) :
    ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare (blockVals x0 x1 x2 x3 x4 x5 x6 x7 x8 x9 x10 x11 x12).outQ ∗ owns (c : Thread nD τ) arg15 fullShare (blockVals x0 x1 x2 x3 x4 x5 x6 x7 x8 x9 x10 x11 x12).outK ∗ owns (c : Thread nD τ) arg16 fullShare ((blockVals x0 x1 x2 x3 x4 x5 x6 x7 x8 x9 x10 x11 x12).endQ k0_pay1) ∗ owns (c : Thread nD τ) arg17 fullShare ((blockVals x0 x1 x2 x3 x4 x5 x6 x7 x8 x9 x10 x11 x12).endK k0_pay2) ∗ (∃ d, owns (c : Thread nD τ) arg18 fullShare d) ∗ (∃ d, owns (c : Thread nD τ) arg19 fullShare d)) -∗ K ⟨⟩))
          ⊢ wp frame (wpE (defs₀ (F := F)) Variants.none c none) E (cc0_qk_norm_rope_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  intro E K
  simp only [cc0_qk_norm_rope_bwd_eq_skeleton]; unfold cc0_qk_norm_rope_bwd_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%ds0, %fs0, -, HS0⟩, ⟨%ds1, %fs1, -, HS1⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [H11]
  · iexists _; isplitr; · ipureintro; exact harg12.read_unread _
    iexact H11
  isplitl [H12]
  · iexists _; isplitr; · ipureintro; exact harg13.read_unread _
    iexact H12
  isplitl [H13]
  · iexists _; isplitr; swap; · iexact H13
    ipureintro
    refine Bufs.outQ_of ⟨Variants.none, c, none, i, arg1, harg1, arg2, harg2, arg3, harg3, arg4, harg4, arg5, harg5, arg6, harg6, arg7, harg7, arg8, harg8, arg9, harg9, arg10, harg10, arg11, harg11, arg12, harg12, arg13, harg13, arg14, harg14, arg15, harg15, arg16, harg16, arg17, harg17, arg18, harg18, arg19, harg19, _, _, _, _, _, _, _, _, _, _, _, _⟩ _ _ _ _ _ (Bufs.vals_eq _ (harg4.read_unread _) (harg5.read_unread _) (harg6.read_unread _) (harg7.read_unread _) (harg8.read_unread _) (harg9.read_unread _) (harg10.read_unread _) (harg11.read_unread _) (harg12.read_unread _) (harg13.read_unread _) ?_ ?_)
    all_goals
      first
        | exact harg14.read_unread _
        | (refine (View.read_writes_full _ _ _ _ _).trans ?_
           try sl_unfold_run_names
           try simp only [View.readAt_eq_ld, harg1.read_unread, harg2.read_unread, harg3.read_unread,
             View.ld_unit_zero (S := S128x1) off00, View.ld_unit_zero (S := S1x128) off00])
  isplitl [H14]
  · iexists _; isplitr; swap; · iexact H14
    ipureintro
    refine Bufs.outK_of ⟨Variants.none, c, none, i, arg1, harg1, arg2, harg2, arg3, harg3, arg4, harg4, arg5, harg5, arg6, harg6, arg7, harg7, arg8, harg8, arg9, harg9, arg10, harg10, arg11, harg11, arg12, harg12, arg13, harg13, arg14, harg14, arg15, harg15, arg16, harg16, arg17, harg17, arg18, harg18, arg19, harg19, _, _, _, _, _, _, _, _, _, _, _, _⟩ _ _ _ _ _ (Bufs.vals_eq _ (harg4.read_unread _) (harg5.read_unread _) (harg6.read_unread _) (harg7.read_unread _) (harg8.read_unread _) (harg9.read_unread _) (harg10.read_unread _) (harg11.read_unread _) (harg12.read_unread _) (harg13.read_unread _) ?_ ?_)
    all_goals
      first
        | exact harg15.read_unread _
        | (refine (View.read_writes_full _ _ _ _ _).trans ?_
           try sl_unfold_run_names
           try simp only [View.readAt_eq_ld, harg1.read_unread, harg2.read_unread, harg3.read_unread,
             View.ld_unit_zero (S := S128x1) off00, View.ld_unit_zero (S := S1x128) off00])
  isplitl [H15]
  · iexists _; isplitr; swap; · iexact H15
    ipureintro
    rw [View.writes_append]
    refine Bufs.accQ_of ⟨Variants.none, c, none, i, arg1, harg1, arg2, harg2, arg3, harg3, arg4, harg4, arg5, harg5, arg6, harg6, arg7, harg7, arg8, harg8, arg9, harg9, arg10, harg10, arg11, harg11, arg12, harg12, arg13, harg13, arg14, harg14, arg15, harg15, arg16, harg16, arg17, harg17, arg18, harg18, arg19, harg19, _, _, _, _, _, _, _, _, _, _, _, _⟩ _ _ _ _ _ (Bufs.vals_eq _ (harg4.read_unread _) (harg5.read_unread _) (harg6.read_unread _) (harg7.read_unread _) (harg8.read_unread _) (harg9.read_unread _) (harg10.read_unread _) (harg11.read_unread _) (harg12.read_unread _) (harg13.read_unread _) ?_ ?_) ?_
    all_goals
      first
        | exact harg16.read_unread _
        | (refine (View.read_writes_full _ _ _ _ _).trans ?_
           try sl_unfold_run_names
           try simp only [View.readAt_eq_ld, harg1.read_unread, harg2.read_unread, harg3.read_unread,
             View.ld_unit_zero (S := S128x1) off00, View.ld_unit_zero (S := S1x128) off00])
  isplitl [H16]
  · iexists _; isplitr; swap; · iexact H16
    ipureintro
    rw [View.writes_append]
    refine Bufs.accK_of ⟨Variants.none, c, none, i, arg1, harg1, arg2, harg2, arg3, harg3, arg4, harg4, arg5, harg5, arg6, harg6, arg7, harg7, arg8, harg8, arg9, harg9, arg10, harg10, arg11, harg11, arg12, harg12, arg13, harg13, arg14, harg14, arg15, harg15, arg16, harg16, arg17, harg17, arg18, harg18, arg19, harg19, _, _, _, _, _, _, _, _, _, _, _, _⟩ _ _ _ _ _ (Bufs.vals_eq _ (harg4.read_unread _) (harg5.read_unread _) (harg6.read_unread _) (harg7.read_unread _) (harg8.read_unread _) (harg9.read_unread _) (harg10.read_unread _) (harg11.read_unread _) (harg12.read_unread _) (harg13.read_unread _) ?_ ?_) ?_
    all_goals
      first
        | exact harg17.read_unread _
        | (refine (View.read_writes_full _ _ _ _ _).trans ?_
           try sl_unfold_run_names
           try simp only [View.readAt_eq_ld, harg1.read_unread, harg2.read_unread, harg3.read_unread,
             View.ld_unit_zero (S := S128x1) off00, View.ld_unit_zero (S := S1x128) off00])
  isplitl [HS0]
  · iexists _, _; isplitr; swap; · iexact HS0
    ipureintro; rfl
  iexists _, _; isplitr; swap; · iexact HS1
  ipureintro; rfl

end Cert.KernelIdeal.Token

end
-- ==== Proof.RunB.lean ====
/-
  The body at a grid point that goes on with the weight gradients: it adds the block's tokens to what they are.
-/
module

public import proofs.«01_k».proof.Proof.Gen.KernelIdeal.Frame.Runs
public import proofs.«01_k».proof.Proof.Body
public import proofs.«01_k».proof.Proof.RunA

@[expose] public section

set_option maxRecDepth 16384

noncomputable section

namespace Cert.KernelIdeal.Token

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Token.Bufs (off00)
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- The body at a grid point that goes on with the weight gradients: it adds the block's tokens to what they are. -/
theorem runB (c : Dev nD) (i : grid0.Coords) (arg1 : Memref sig .tc .vmem S128x1 .i32) (harg1 : arg1.IsWhole) (arg2 : Memref sig .tc .vmem S1x128 .f32) (harg2 : arg2.IsWhole) (arg3 : Memref sig .tc .vmem S1x128 .f32) (harg3 : arg3.IsWhole) (arg4 : Memref sig .tc .vmem S40x128 .f32) (harg4 : arg4.IsWhole) (arg5 : Memref sig .tc .vmem S8x128 .f32) (harg5 : arg5.IsWhole) (arg6 : Memref sig .tc .vmem S1x40x128 .f32) (harg6 : arg6.IsWhole) (arg7 : Memref sig .tc .vmem S1x40x128 .f32) (harg7 : arg7.IsWhole) (arg8 : Memref sig .tc .vmem S1x8x128 .f32) (harg8 : arg8.IsWhole) (arg9 : Memref sig .tc .vmem S1x8x128 .f32) (harg9 : arg9.IsWhole) (arg10 : Memref sig .tc .vmem S5120x128 .fp8e5m2) (harg10 : arg10.IsWhole) (arg11 : Memref sig .tc .vmem S5120x128 .fp8e4m3) (harg11 : arg11.IsWhole) (arg12 : Memref sig .tc .vmem S1024x128 .fp8e5m2) (harg12 : arg12.IsWhole) (arg13 : Memref sig .tc .vmem S1024x128 .fp8e4m3) (harg13 : arg13.IsWhole) (arg14 : Memref sig .tc .vmem S5120x128 .bf16) (harg14 : arg14.IsWhole) (arg15 : Memref sig .tc .vmem S1024x128 .bf16) (harg15 : arg15.IsWhole) (arg16 : Memref sig .tc .vmem S40x128 .f32) (harg16 : arg16.IsWhole) (arg17 : Memref sig .tc .vmem S8x128 .f32) (harg17 : arg17.IsWhole) (arg18 : Memref sig .tc .vmem S128x128 .f32) (harg18 : arg18.IsWhole) (arg19 : Memref sig .tc .vmem S128x128 .f32) (harg19 : arg19.IsWhole) (hc0 : ¬cond0_0 i)
    (x0 : Vec F S128x1 .i32) (x1 : Vec F S1x128 .f32) (x2 : Vec F S1x128 .f32) (x3 : Vec F S40x128 .f32) (x4 : Vec F S8x128 .f32) (x5 : Vec F S1x40x128 .f32) (x6 : Vec F S1x40x128 .f32) (x7 : Vec F S1x8x128 .f32) (x8 : Vec F S1x8x128 .f32) (x9 : Vec F S5120x128 .fp8e5m2) (x10 : Vec F S5120x128 .fp8e4m3) (x11 : Vec F S1024x128 .fp8e5m2) (x12 : Vec F S1024x128 .fp8e4m3) (xo15 : Vec F S40x128 .f32) (xo16 : Vec F S8x128 .f32) :
    ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ (∃ d, owns (c : Thread nD τ) arg15 fullShare d) ∗ owns (c : Thread nD τ) arg16 fullShare xo15 ∗ owns (c : Thread nD τ) arg17 fullShare xo16 ∗ (∃ d, owns (c : Thread nD τ) arg18 fullShare d) ∗ (∃ d, owns (c : Thread nD τ) arg19 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare (blockVals x0 x1 x2 x3 x4 x5 x6 x7 x8 x9 x10 x11 x12).outQ ∗ owns (c : Thread nD τ) arg15 fullShare (blockVals x0 x1 x2 x3 x4 x5 x6 x7 x8 x9 x10 x11 x12).outK ∗ owns (c : Thread nD τ) arg16 fullShare ((blockVals x0 x1 x2 x3 x4 x5 x6 x7 x8 x9 x10 x11 x12).endQ xo15) ∗ owns (c : Thread nD τ) arg17 fullShare ((blockVals x0 x1 x2 x3 x4 x5 x6 x7 x8 x9 x10 x11 x12).endK xo16) ∗ (∃ d, owns (c : Thread nD τ) arg18 fullShare d) ∗ (∃ d, owns (c : Thread nD τ) arg19 fullShare d)) -∗ K ⟨⟩))
          ⊢ wp frame (wpE (defs₀ (F := F)) Variants.none c none) E (cc0_qk_norm_rope_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  intro E K
  simp only [cc0_qk_norm_rope_bwd_eq_skeleton]; unfold cc0_qk_norm_rope_bwd_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%f15, %hf15, H15⟩, ⟨%f16, %hf16, H16⟩, ⟨%ds0, %fs0, -, HS0⟩, ⟨%ds1, %fs1, -, HS1⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg16.eq_unread hf15; obtain rfl := harg17.eq_unread hf16
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [H11]
  · iexists _; isplitr; · ipureintro; exact harg12.read_unread _
    iexact H11
  isplitl [H12]
  · iexists _; isplitr; · ipureintro; exact harg13.read_unread _
    iexact H12
  isplitl [H13]
  · iexists _; isplitr; swap; · iexact H13
    ipureintro
    refine Bufs.outQ_of ⟨Variants.none, c, none, i, arg1, harg1, arg2, harg2, arg3, harg3, arg4, harg4, arg5, harg5, arg6, harg6, arg7, harg7, arg8, harg8, arg9, harg9, arg10, harg10, arg11, harg11, arg12, harg12, arg13, harg13, arg14, harg14, arg15, harg15, arg16, harg16, arg17, harg17, arg18, harg18, arg19, harg19, _, _, _, _, _, _, _, _, _, _, _, _⟩ _ _ _ _ _ (Bufs.vals_eq _ (harg4.read_unread _) (harg5.read_unread _) (harg6.read_unread _) (harg7.read_unread _) (harg8.read_unread _) (harg9.read_unread _) (harg10.read_unread _) (harg11.read_unread _) (harg12.read_unread _) (harg13.read_unread _) ?_ ?_)
    all_goals
      first
        | exact harg14.read_unread _
        | (refine (View.read_writes_full _ _ _ _ _).trans ?_
           try sl_unfold_run_names
           try simp only [View.readAt_eq_ld, harg1.read_unread, harg2.read_unread, harg3.read_unread,
             View.ld_unit_zero (S := S128x1) off00, View.ld_unit_zero (S := S1x128) off00])
  isplitl [H14]
  · iexists _; isplitr; swap; · iexact H14
    ipureintro
    refine Bufs.outK_of ⟨Variants.none, c, none, i, arg1, harg1, arg2, harg2, arg3, harg3, arg4, harg4, arg5, harg5, arg6, harg6, arg7, harg7, arg8, harg8, arg9, harg9, arg10, harg10, arg11, harg11, arg12, harg12, arg13, harg13, arg14, harg14, arg15, harg15, arg16, harg16, arg17, harg17, arg18, harg18, arg19, harg19, _, _, _, _, _, _, _, _, _, _, _, _⟩ _ _ _ _ _ (Bufs.vals_eq _ (harg4.read_unread _) (harg5.read_unread _) (harg6.read_unread _) (harg7.read_unread _) (harg8.read_unread _) (harg9.read_unread _) (harg10.read_unread _) (harg11.read_unread _) (harg12.read_unread _) (harg13.read_unread _) ?_ ?_)
    all_goals
      first
        | exact harg15.read_unread _
        | (refine (View.read_writes_full _ _ _ _ _).trans ?_
           try sl_unfold_run_names
           try simp only [View.readAt_eq_ld, harg1.read_unread, harg2.read_unread, harg3.read_unread,
             View.ld_unit_zero (S := S128x1) off00, View.ld_unit_zero (S := S1x128) off00])
  isplitl [H15]
  · iexists _; isplitr; swap; · iexact H15
    ipureintro
    refine Bufs.accQ_of ⟨Variants.none, c, none, i, arg1, harg1, arg2, harg2, arg3, harg3, arg4, harg4, arg5, harg5, arg6, harg6, arg7, harg7, arg8, harg8, arg9, harg9, arg10, harg10, arg11, harg11, arg12, harg12, arg13, harg13, arg14, harg14, arg15, harg15, arg16, harg16, arg17, harg17, arg18, harg18, arg19, harg19, _, _, _, _, _, _, _, _, _, _, _, _⟩ _ _ _ _ _ (Bufs.vals_eq _ (harg4.read_unread _) (harg5.read_unread _) (harg6.read_unread _) (harg7.read_unread _) (harg8.read_unread _) (harg9.read_unread _) (harg10.read_unread _) (harg11.read_unread _) (harg12.read_unread _) (harg13.read_unread _) ?_ ?_) ?_
    all_goals
      first
        | exact harg16.read_unread _
        | (refine (View.read_writes_full _ _ _ _ _).trans ?_
           try sl_unfold_run_names
           try simp only [View.readAt_eq_ld, harg1.read_unread, harg2.read_unread, harg3.read_unread,
             View.ld_unit_zero (S := S128x1) off00, View.ld_unit_zero (S := S1x128) off00])
  isplitl [H16]
  · iexists _; isplitr; swap; · iexact H16
    ipureintro
    refine Bufs.accK_of ⟨Variants.none, c, none, i, arg1, harg1, arg2, harg2, arg3, harg3, arg4, harg4, arg5, harg5, arg6, harg6, arg7, harg7, arg8, harg8, arg9, harg9, arg10, harg10, arg11, harg11, arg12, harg12, arg13, harg13, arg14, harg14, arg15, harg15, arg16, harg16, arg17, harg17, arg18, harg18, arg19, harg19, _, _, _, _, _, _, _, _, _, _, _, _⟩ _ _ _ _ _ (Bufs.vals_eq _ (harg4.read_unread _) (harg5.read_unread _) (harg6.read_unread _) (harg7.read_unread _) (harg8.read_unread _) (harg9.read_unread _) (harg10.read_unread _) (harg11.read_unread _) (harg12.read_unread _) (harg13.read_unread _) ?_ ?_) ?_
    all_goals
      first
        | exact harg17.read_unread _
        | (refine (View.read_writes_full _ _ _ _ _).trans ?_
           try sl_unfold_run_names
           try simp only [View.readAt_eq_ld, harg1.read_unread, harg2.read_unread, harg3.read_unread,
             View.ld_unit_zero (S := S128x1) off00, View.ld_unit_zero (S := S1x128) off00])
  isplitl [HS0]
  · iexists _, _; isplitr; swap; · iexact HS0
    ipureintro; rfl
  iexists _, _; isplitr; swap; · iexact HS1
  ipureintro; rfl

end Cert.KernelIdeal.Token

end
-- ==== Proof.Run.lean ====
/-
  The kernel's run: what every output block holds after each grid point, and the kernel's frame.  The frame argument
  follows the pattern of the generated frame module; the bodies' effects are `runA` and `runB`.
-/
module

public import proofs.«01_k».proof.Proof.RunA
public import proofs.«01_k».proof.Proof.RunB
public import Idealize.ShloMosaic.Lib.Claim

@[expose] public section

set_option maxRecDepth 16384

noncomputable section

namespace Cert.KernelIdeal.Token

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What grid point `t`'s tokens are computed from: the input blocks of the point. -/
def pointVals (c : Dev nD) (t : Fin cfg0.N) : Vals F :=
  blockVals (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)

/-- The weight gradients after grid point `n`: cleared before the first point, each point adding its tokens. -/
def gradsAt (c : Dev nD) : (n : ℕ) → n < cfg0.N → Vec F S40x128 .f32 × Vec F S8x128 .f32
  | 0, hn => ((pointVals m c ⟨0, hn⟩).endQ k0_pay1, (pointVals m c ⟨0, hn⟩).endK k0_pay2)
  | n + 1, hn =>
    ((pointVals m c ⟨n + 1, hn⟩).endQ (gradsAt c n (Nat.lt_of_succ_lt hn)).1,
      (pointVals m c ⟨n + 1, hn⟩).endK (gradsAt c n (Nat.lt_of_succ_lt hn)).2)

/-- `gradsAt` at a point that starts the gradients. -/
theorem gradsAt_A (c : Dev nD) (t : Fin cfg0.N) (h0 : t.val % 16 = 0) :
    gradsAt m c t.val t.isLt = ((pointVals m c t).endQ k0_pay1, (pointVals m c t).endK k0_pay2) := by
  obtain ⟨n, hn⟩ := t
  have hN : n < 16 := lt_of_lt_of_eq hn (show cfg0.N = 16 from N_0)
  cases n with
  | zero => rfl
  | succ n => exfalso; dsimp only at h0; omega

/-- `gradsAt` at any other point. -/
theorem gradsAt_B (c : Dev nD) (t : Fin cfg0.N) (h0 : ¬t.val % 16 = 0) :
    gradsAt m c t.val t.isLt =
      ((pointVals m c t).endQ (gradsAt m c (t.val - 1) (Nat.lt_of_le_of_lt (Nat.sub_le _ _) t.isLt)).1,
        (pointVals m c t).endK (gradsAt m c (t.val - 1) (Nat.lt_of_le_of_lt (Nat.sub_le _ _) t.isLt)).2) := by
  obtain ⟨n, hn⟩ := t
  cases n with
  | zero => exact absurd (Nat.zero_mod _) h0
  | succ n => rfl

/-! ## The pipeline's proof data -/

/-- The proof data of the pipeline on one core: each input block as fetched, each output block as the body leaves it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => (pointVals m c t).outQ
    | ⟨14, _⟩ => (pointVals m c t).outK
    | ⟨15, _⟩ => (gradsAt m c t.val t.isLt).1
    | ⟨16, _⟩ => (gradsAt m c t.val t.isLt).2
    | ⟨_ + 17, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = (pointVals m c t).outQ := by dsimp only [dats]
theorem after0_14 (c : Dev nD) (t : Fin cfg0.N) : (dats m 0 c).after 14 t = (pointVals m c t).outK := by dsimp only [dats]
theorem after0_15 (c : Dev nD) (t : Fin cfg0.N) : (dats m 0 c).after 15 t = (gradsAt m c t.val t.isLt).1 := by dsimp only [dats]
theorem after0_16 (c : Dev nD) (t : Fin cfg0.N) : (dats m 0 c).after 16 t = (gradsAt m c t.val t.isLt).2 := by dsimp only [dats]

/-- Each input's current buffer holds its block. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
/-- Away from the first point the query norm's gradient holds what the point before left. -/
theorem before0_15_B (c : Dev nD) (t : Fin cfg0.N) (h0 : ¬t.val % 16 = 0) (d) :
    (dats m 0 c).before 15 t d = (gradsAt m c (t.val - 1) (Nat.lt_of_le_of_lt (Nat.sub_le _ _) t.isLt)).1 := by
  have hN : t.val < 16 := lt_of_lt_of_eq t.isLt (show cfg0.N = 16 from N_0)
  rw [Dat.before_out_kept _ 15 rfl t (by omega) (Bool.eq_false_iff.mpr fun h => by have := (flush0_15 _).mp h; dsimp only at this; omega)
    (fun _ => rfl) (fun _ _ => rfl)]
  dsimp only [dats]
/-- Away from the first point the key norm's gradient holds what the point before left. -/
theorem before0_16_B (c : Dev nD) (t : Fin cfg0.N) (h0 : ¬t.val % 16 = 0) (d) :
    (dats m 0 c).before 16 t d = (gradsAt m c (t.val - 1) (Nat.lt_of_le_of_lt (Nat.sub_le _ _) t.isLt)).2 := by
  have hN : t.val < 16 := lt_of_lt_of_eq t.isLt (show cfg0.N = 16 from N_0)
  rw [Dat.before_out_kept _ 16 rfl t (by omega) (Bool.eq_false_iff.mpr fun h => by have := (flush0_16 _).mp h; dsimp only at this; omega)
    (fun _ => rfl) (fun _ _ => rfl)]
  dsimp only [dats]

/-! ## The body obligation, at a generic point -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t))

set_option maxHeartbeats 3200000 in
/-- The body at any point: one of the two bodies' runs applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16]
  rw [show (dats m 0 c).Φ t.castSucc = Pipeline.ΦA spec0 c from rfl, PhiA0_eq]
  have hN : t.val < 16 := lt_of_lt_of_eq t.isLt (show cfg0.N = 16 from N_0)
  by_cases h0 : t.val % 16 = 0
  · rw [gradsAt_A m c t h0]; dsimp only
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
    iapply (runA c (grid0.coords t) _ _ _ _ _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [H14]; · iexists _; iexact H14
    isplitl [H15]; · iexists _; iexact H15
    isplitl [H16]; · iexists _; iexact H16
    isplitl [HS0]; · iexact HS0
    isplitl [HS1]; · iexact HS1
    iintro ⟨H0, H1, H2, H3, H4, H5, H6, H7, H8, H9, H10, H11, H12, H13, H14, H15, H16, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16
  · rw [gradsAt_B m c t h0]; dsimp only
    simp only [before0_15_B m c t h0, before0_16_B m c t h0]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
    iapply (runB c (grid0.coords t) _ _ _ _ _ _ _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [H14]; · iexists _; iexact H14
    isplitl [H15]; · iexact H15
    isplitl [H16]; · iexact H16
    isplitl [HS0]; · iexact HS0
    isplitl [HS1]; · iexact HS1
    iintro ⟨H0, H1, H2, H3, H4, H5, H6, H7, H8, H9, H10, H11, H12, H13, H14, H15, H16, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16

/-- The body table's row at point `t` is the body. -/
theorem defs₀_row (t : Fin cfg0.N) :
    defs₀ (F := F) .tc cfg0.body (cfg0.bodyArgs t (cfg0.slots t)) = bodyAt0 t := by
  unfold defs₀; rw [Defs.onTc_tc]

/-- The pipeline's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- The launch: every array ends at what the proof data says, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The launch without the counters. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

/-- The frame: every argument array ends unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (unchanged m ρ) ((θ_run defs _ _).mono (fun _ h => h.2) (run_main_quiescent m ρ))

end Cert.KernelIdeal.Token

end
-- ==== Proof.Bits.lean ====
/- The kernel's own frame: with the named constant read as its bits, the idealized program is the kernel. -/
module

public import proofs.«01_k».proof.Defs
public import proofs.«01_k».proof.Proof.Gen.Kernel
public import proofs.«01_k».proof.Proof.Gen.KernelIdeal
public import proofs.«01_k».proof.Proof.Run

@[expose] public section

set_option maxRecDepth 100000
set_option maxHeartbeats 4000000

noncomputable section

namespace Cert.KernelIdeal.Token

open Idealize.ShloMosaic Idealize.SL.Sem

/-- The named constant read as its own bits. -/
@[instance_reducible] def asBits : Named Bits := ⟨fun _ _ {φ} bits => Scalar.ofBits φ bits⟩

attribute [local instance] asBits

/-- The kernels' functions are the same. -/
theorem body_eq : Cert.KernelIdeal.cc0_qk_norm_rope_bwd (F := Bits) = Cert.Kernel.cc0_qk_norm_rope_bwd (F := Bits) := rfl

/-- The host programs are the same. -/
theorem main_eq : Cert.KernelIdeal.main (F := Bits) = Cert.Kernel.main (F := Bits) := rfl

/-- The kernels' body tables are the same. -/
theorem defs₀_eq : Cert.KernelIdeal.defs₀ (F := Bits) = Cert.Kernel.defs₀ (F := Bits) := by
  funext pr ℓ a
  cases pr with
  | tc =>
    match ℓ, a with
    | 0, (t, s) => rfl
  | _ => rfl

/-- The body tables with the pipelines are the same. -/
theorem defs_eq : Cert.KernelIdeal.defs (F := Bits) = Cert.Kernel.defs (F := Bits) :=
  (congrArg (Pipeline.defs (Cert.KernelIdeal.pcfgs (F := Bits))) defs₀_eq).trans rfl

variable (m : (ℓ : Loc nD τ sig) → Buf (Elt Bits) ℓ) (ρ : Dev nD → PrngReg)

/-- The frame, for whatever programs are those of the idealized kernel. -/
theorem frame_bits_of (D) (M) (hD : Cert.KernelIdeal.defs (F := Bits) = D) (hM : Cert.KernelIdeal.main (F := Bits) = M) :
    θ_run D (onTc (τ := τ) M) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) := by
  subst hD hM
  exact frame m ρ

end Cert.KernelIdeal.Token

namespace Cert.Kernel.Token

open Idealize.ShloMosaic Idealize.SL.Sem

variable (m : (ℓ : Loc Cert.Kernel.nD Cert.Kernel.τ Cert.Kernel.sig) → Buf (Elt Bits) ℓ) (ρ : Dev Cert.Kernel.nD → PrngReg)

/-- The kernel's frame: every argument array ends unchanged and every counter at zero. -/
theorem frame : θ_run (Cert.Kernel.defs (F := Bits)) (onTc (τ := Cert.Kernel.τ) (Cert.Kernel.main (F := Bits))) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0) :=
  Cert.KernelIdeal.Token.frame_bits_of m ρ _ _ Cert.KernelIdeal.Token.defs_eq Cert.KernelIdeal.Token.main_eq

end Cert.Kernel.Token

end
-- ==== Proof.Spec.lean ====
/-
  What a token's arithmetic means over the extended reals.
-/
module

public import proofs.«01_k».proof.Proof.Token
public import Idealize.ShloMosaic.Lib.Pointwise
public import Idealize.ShloMosaic.Lib.Pointwise.IndexVar

@[expose] public section

set_option maxRecDepth 16384

noncomputable section

namespace Cert.Spec

open Idealize.ShloMosaic

variable {H : ℕ} (N : EReal) (x dn g : Fin H → Fin 128 → EReal)

/-- The reciprocal root mean square of a token `x`, `N` the reciprocal of the number of its elements. -/
def rstd : EReal := Ideal.rsqrt ((∑ l, ∑ p, x p l * x p l) * N + Ideal.ofBits .f32 0x358637BD#32)
/-- What a token adds to the gradient of the norm's weights. -/
def dg (p : Fin H) (l : Fin 128) : EReal := dn p l * (x p l * rstd N x)
/-- A token's input gradient. -/
def dx (p : Fin H) (l : Fin 128) : EReal :=
  rstd N x * (dn p l * g p l - x p l * rstd N x * ((∑ l, ∑ p, dg N x dn p l * g p l) * N))
/-- The gradient rotated back, `c` the cosines and `s` the signed sines of the token's position. -/
def rotate (dy : Fin H → Fin 128 → EReal) (c s : Fin 128 → EReal) (p : Fin H) (l : Fin 128) : EReal :=
  dy p l * c l + dy p ⟨(l.val + 64) % 128, Nat.mod_lt _ (by decide)⟩ * s l

end Cert.Spec

namespace Cert.KernelIdeal.Token

open Idealize.ShloMosaic Cert.KernelIdeal Cert.KernelIdeal.Gen

variable {H : ℕ} (h : Fits H) (n : Ideal .f32) (a b : FVec Ideal (Col H) .f32) (c s : FVec Ideal S1x128 .f32)
  (dy : FVec Ideal (Rows H) .fp8e5m2) (x : FVec Ideal (Rows H) .fp8e4m3) (g : FVec Ideal (Rows H) .f32)

/-- The sum over a token's heads and lanes. -/
theorem total_apply (v : FVec Ideal (Rows H) .f32) (j) : total h v j = ∑ l : Fin 128, ∑ p : Fin H, v (ix2 p l) := by
  unfold total
  pointwise

/-- Of one head there is only one. -/
theorem head_eq (p : Fin H) (c : Prop) [Decidable c] (hc : c → H = 1) (q : c → Fin H) : dite c q (fun _ => p) = p := by
  split
  · next h => have := hc h; subst this; exact Subsingleton.elim _ _
  · rfl

/-- A token's dequantised input. -/
theorem xin_apply (p : Fin H) (l : Fin 128) : xin h b x (ix2 p l) = x (ix2 p l) * b (ix2 p 0) := by
  unfold xin
  rw [shapeCast_self]
  pointwise
  refine congrArg (fun i => x (ix2 p l) * b (ix2 i 0)) ?_
  exact head_eq p _ id _

/-- A token's dequantised gradient. -/
theorem dyin_apply (p : Fin H) (l : Fin 128) : dyin h a dy (ix2 p l) = dy (ix2 p l) * a (ix2 p 0) := by
  unfold dyin
  rw [shapeCast_self]
  pointwise
  refine congrArg (fun i => dy (ix2 p l) * a (ix2 i 0)) ?_
  exact head_eq p _ id _

/-- A token's rotated gradient. -/
theorem dn_apply (p : Fin H) (l : Fin 128) : dn h a c s dy (ix2 p l) =
    Spec.rotate (fun p l => dy (ix2 p l) * a (ix2 p 0)) (fun l => c (ix2 0 l)) (fun l => s (ix2 0 l)) p l := by
  unfold dn Spec.rotate
  pointwise [dyin_apply]
  simp only [show l.val + 128 - 64 = l.val + 64 by omega]

/-- A token's reciprocal root mean square. -/
theorem rstd_apply (j) : rstd h n b x j = Spec.rstd n (fun p l => x (ix2 p l) * b (ix2 p 0)) := by
  unfold rstd Spec.rstd
  pointwise [total_apply, xin_apply]

/-- A token's normalised input. -/
theorem xhat_apply (p : Fin H) (l : Fin 128) : xhat h n b x (ix2 p l) =
    x (ix2 p l) * b (ix2 p 0) * Spec.rstd n (fun p l => x (ix2 p l) * b (ix2 p 0)) := by
  unfold xhat
  pointwise [xin_apply, rstd_apply]

/-- What a token adds to the gradient of the norm's weights. -/
theorem dg_apply (p : Fin H) (l : Fin 128) : dg h n a b c s dy x (ix2 p l) =
    Spec.dg n (fun p l => x (ix2 p l) * b (ix2 p 0))
      (Spec.rotate (fun p l => dy (ix2 p l) * a (ix2 p 0)) (fun l => c (ix2 0 l)) (fun l => s (ix2 0 l))) p l := by
  unfold dg Spec.dg
  pointwise [dn_apply, xhat_apply]

/-- A token's input gradient. -/
theorem dx_apply (p : Fin H) (l : Fin 128) : dx h n a b c s dy x g (ix2 p l) =
    Spec.dx n (fun p l => x (ix2 p l) * b (ix2 p 0))
      (Spec.rotate (fun p l => dy (ix2 p l) * a (ix2 p 0)) (fun l => c (ix2 0 l)) (fun l => s (ix2 0 l)))
      (fun p l => g (ix2 p l)) p l := by
  unfold dx Spec.dx
  pointwise [dn_apply, xhat_apply, rstd_apply, total_apply, dg_apply]

end Cert.KernelIdeal.Token

end
-- ==== Proof.Block.lean ====
/-
  A block of 128 tokens over the extended reals: its input gradients and what it adds to the norms' gradients, token by
  token.
-/
module

public import proofs.«01_k».proof.Proof.Body
public import proofs.«01_k».proof.Proof.Spec

@[expose] public section

set_option maxRecDepth 16384

noncomputable section

namespace Cert.KernelIdeal.Token

open Idealize.ShloMosaic Idealize.ShloMosaic.TcCoe Idealize.SL.Sem
open Cert.KernelIdeal Cert.KernelIdeal.Gen

/-- A block's token `t`: its codes times its scales. -/
def scaled {H R : ℕ} (hR : R = 128 * H) (codes : (Rows R).Idx → EReal) (scales : Shape.Idx ⟨3, ![1, H, 128]⟩ → EReal)
    (t : Fin 128) (p : Fin H) (l : Fin 128) : EReal :=
  codes (ix2 ⟨t.val * H + p.val, by
    have := t.isLt; have := p.isLt
    calc t.val * H + p.val < t.val * H + H := by omega
      _ = (t.val + 1) * H := by ring
      _ ≤ 128 * H := Nat.mul_le_mul_right _ (by omega)
      _ = R := hR.symm⟩ l) * scales (ix3 0 p t)

/-- The number in its block of token `n` of trip `k`. -/
def tok (k : Fin k0_t1_loop.trips) (n : ℕ) (hn : n < 8) : Fin 128 :=
  ⟨8 * k.val + n, by have := lt_of_lt_of_eq k.isLt trips_eq; omega⟩

/-- A recursion that adds `f n` at each step ends at its start plus the sum. -/
theorem fold_sum {N : ℕ} (S : (n : ℕ) → n ≤ N → EReal) (f : ℕ → EReal)
    (h : ∀ n (hn : n + 1 ≤ N), S (n + 1) hn = S n (Nat.le_of_succ_le hn) + f n) (n : ℕ) (hn : n ≤ N) :
    S n hn = S 0 (Nat.zero_le _) + ∑ j ∈ Finset.range n, f j := by
  induction n with
  | zero => simp
  | succ n ih => rw [h, ih, Finset.sum_range_succ, add_assoc]

/-- A sum over `a` blocks of `b` is the sum over all. -/
theorem sum_blocks (a b : ℕ) (f : ℕ → EReal) :
    ∑ i ∈ Finset.range a, ∑ j ∈ Finset.range b, f (b * i + j) = ∑ t ∈ Finset.range (b * a), f t := by
  induction a with
  | zero => simp
  | succ a ih => rw [Finset.sum_range_succ, ih, Nat.mul_succ, Finset.sum_range_add]

namespace Vals

/-- How far trip `k` rolls the scales. -/
theorem amount_eq (k : Fin k0_t1_loop.trips) : (amount k).toNat = (128 - 8 * k.val) % 128 := by
  revert k; decide +kernel

variable (V : Vals Ideal) (k : Fin k0_t1_loop.trips) (n : ℕ) (hn : n < 8)

/-- The dequantised queries of the block's token `t`. -/
def tokXQ : Fin 128 → Fin 40 → Fin 128 → EReal := scaled (H := 40) (R := 5120) (by decide) V.xQ V.xSQ
/-- The dequantised keys of the block's token `t`. -/
def tokXK : Fin 128 → Fin 8 → Fin 128 → EReal := scaled (H := 8) (R := 1024) (by decide) V.xK V.xSK
/-- The rotated query gradient of the block's token `t`. -/
def tokDnQ (t : Fin 128) : Fin 40 → Fin 128 → EReal :=
  Spec.rotate (scaled (H := 40) (R := 5120) (by decide) V.dyQ V.dySQ t) (fun l => V.cos (ix2 t l)) (fun l => V.sin (ix2 t l))
/-- The rotated key gradient of the block's token `t`. -/
def tokDnK (t : Fin 128) : Fin 8 → Fin 128 → EReal :=
  Spec.rotate (scaled (H := 8) (R := 1024) (by decide) V.dyK V.dySK t) (fun l => V.cos (ix2 t l)) (fun l => V.sin (ix2 t l))

/-- The cosines of a trip's token are the table's row. -/
theorem cosRow_apply (l : Fin 128) : V.cosRow k n hn (ix2 0 l) = V.cos (ix2 (tok k n hn) l) := by
  unfold cosRow
  pointwise
  have h0 := congrFun (k0_off1_eq k ⟨n, hn⟩) 0
  have h1 := congrFun (k0_off1_eq k ⟨n, hn⟩) 1
  exact congrArg V.cos (congrArg₂ ix2 (Fin.ext h0) (Fin.ext ((congrArg (· + l.val) h1).trans (Nat.zero_add _))))
/-- The signed sines of a trip's token are the table's row. -/
theorem sinRow_apply (l : Fin 128) : V.sinRow k n hn (ix2 0 l) = V.sin (ix2 (tok k n hn) l) := by
  unfold sinRow
  pointwise
  have h0 := congrFun (k0_off1_eq k ⟨n, hn⟩) 0
  have h1 := congrFun (k0_off1_eq k ⟨n, hn⟩) 1
  exact congrArg V.sin (congrArg₂ ix2 (Fin.ext h0) (Fin.ext ((congrArg (· + l.val) h1).trans (Nat.zero_add _))))

/-- The column that the trip's roll brings to column `n` is the token's. -/
theorem col_eq (h : (n + 128 - (amount k).toNat % 128) % 128 < 128) :
    (⟨(n + 128 - (amount k).toNat % 128) % 128, h⟩ : Fin 128) = tok k n hn := by
  have hk := lt_of_lt_of_eq k.isLt trips_eq
  refine Fin.ext ?_
  show (n + 128 - (amount k).toNat % 128) % 128 = 8 * k.val + n
  rw [amount_eq]
  omega

/-- A trip's token's query gradient scales are the token's column. -/
theorem dyScaleQ_apply (p : Fin 40) : V.dyScaleQ k n hn (ix2 p 0) = V.dySQ (ix3 0 p (tok k n hn)) := by
  unfold dyScaleQ
  pointwise
  exact congrArg (fun t => V.dySQ (ix3 0 p t)) (col_eq k n hn _)

/-- A trip's token's query scales are the token's column. -/
theorem xScaleQ_apply (p : Fin 40) : V.xScaleQ k n hn (ix2 p 0) = V.xSQ (ix3 0 p (tok k n hn)) := by
  unfold xScaleQ
  pointwise
  exact congrArg (fun t => V.xSQ (ix3 0 p t)) (col_eq k n hn _)

/-- A trip's token's query gradient: its rows of the block times its column of the scales. -/
theorem dyQ_apply (p : Fin 40) (l : Fin 128) : V.dyRowsQ k n hn (ix2 p l) * V.dyScaleQ k n hn (ix2 p 0) =
    scaled (H := 40) (R := 5120) (by decide) V.dyQ V.dySQ (tok k n hn) p l := by
  rw [dyScaleQ_apply]
  unfold dyRowsQ scaled
  pointwise
  have h0 : k0_off2 k (BitVec.ofNat 32 n) 0 = 320 * k.val + 40 * n := congrFun (k0_off2_eq k ⟨n, hn⟩) 0
  have h1 : k0_off2 k (BitVec.ofNat 32 n) 1 = 0 := congrFun (k0_off2_eq k ⟨n, hn⟩) 1
  have ht : (tok k n hn).val = 8 * k.val + n := rfl
  refine congrArg (· * _) (congrArg V.dyQ (congrArg₂ ix2 (Fin.ext ?_) (Fin.ext ?_)))
  · show _ + p.val = (tok k n hn).val * 40 + p.val
    omega
  · show _ + l.val = l.val
    omega

/-- A trip's token's query input: its rows of the block times its column of the scales. -/
theorem xQ_apply (p : Fin 40) (l : Fin 128) : V.xRowsQ k n hn (ix2 p l) * V.xScaleQ k n hn (ix2 p 0) =
    scaled (H := 40) (R := 5120) (by decide) V.xQ V.xSQ (tok k n hn) p l := by
  rw [xScaleQ_apply]
  unfold xRowsQ scaled
  pointwise
  have h0 : k0_off2 k (BitVec.ofNat 32 n) 0 = 320 * k.val + 40 * n := congrFun (k0_off2_eq k ⟨n, hn⟩) 0
  have h1 : k0_off2 k (BitVec.ofNat 32 n) 1 = 0 := congrFun (k0_off2_eq k ⟨n, hn⟩) 1
  have ht : (tok k n hn).val = 8 * k.val + n := rfl
  refine congrArg (· * _) (congrArg V.xQ (congrArg₂ ix2 (Fin.ext ?_) (Fin.ext ?_)))
  · show _ + p.val = (tok k n hn).val * 40 + p.val
    omega
  · show _ + l.val = l.val
    omega

/-- A trip's token's query input gradient. -/
theorem dxQ_apply (p : Fin 40) (l : Fin 128) : V.dxQ k n hn (ix2 p l) =
    Spec.dx (nQ (F := Ideal)) (V.tokXQ (tok k n hn)) (V.tokDnQ (tok k n hn)) (fun p l => V.gQ (ix2 p l)) p l := by
  unfold dxQ
  rw [dx_apply, View.ld_unit_zero (S := S40x128) Bufs.off00]
  simp only [V.dyQ_apply, V.xQ_apply, V.cosRow_apply, V.sinRow_apply]
  rfl
/-- What a trip's token adds to the query norm's gradient. -/
theorem dgQ_apply (p : Fin 40) (l : Fin 128) : V.dgQ k n hn (ix2 p l) =
    Spec.dg (nQ (F := Ideal)) (V.tokXQ (tok k n hn)) (V.tokDnQ (tok k n hn)) p l := by
  unfold dgQ
  rw [dg_apply]
  simp only [V.dyQ_apply, V.xQ_apply, V.cosRow_apply, V.sinRow_apply]
  rfl

/-- The block's query input gradient, token by token. -/
theorem outQ_apply (t : Fin 128) (p : Fin 40) (l : Fin 128) (r : Fin 5120) (hr : r.val = t.val * 40 + p.val) :
    V.outQ (ix2 r l) =
      Spec.dx (nQ (F := Ideal)) (V.tokXQ t) (V.tokDnQ t) (fun p l => V.gQ (ix2 p l)) p l := by
  have hp := p.isLt
  have hd : r.val / 40 = t.val := by omega
  have hm : r.val % 40 = p.val := by omega
  unfold outQ stack
  refine (dxQ_apply V _ _ _ _ _).trans ?_
  have key : ∀ t' p', t' = t → p' = p → Spec.dx (nQ (F := Ideal)) (V.tokXQ t') (V.tokDnQ t') (fun p l => V.gQ (ix2 p l)) p' l =
      Spec.dx (nQ (F := Ideal)) (V.tokXQ t) (V.tokDnQ t) (fun p l => V.gQ (ix2 p l)) p l := by
    rintro _ _ rfl rfl
    rfl
  refine key _ _ (Fin.ext ?_) (Fin.ext hm)
  show 8 * (r.val / 40 / 8) + r.val / 40 % 8 = t.val
  omega

/-- What the block's token number `t` adds to the query norm's gradient. -/
def addQ (p : Fin 40) (l : Fin 128) (t : ℕ) : EReal :=
  if h : t < 128 then Spec.dg (nQ (F := Ideal)) (V.tokXQ ⟨t, h⟩) (V.tokDnQ ⟨t, h⟩) p l else 0

/-- The query norm's gradient after a whole block: what it was plus what each token adds. -/
theorem endQ_apply (x : FVec Ideal S40x128 .f32) (p : Fin 40) (l : Fin 128) :
    V.endQ x (ix2 p l) = x (ix2 p l) + ∑ t ∈ Finset.range 128, V.addQ p l t := by
  have h1 : ∀ (k : Fin k0_t1_loop.trips) (x : FVec Ideal S40x128 .f32),
      V.sumQ k x 8 (le_refl 8) (ix2 p l) = x (ix2 p l) + ∑ n ∈ Finset.range 8, V.addQ p l (8 * k.val + n) := by
    intro k x
    refine fold_sum (fun n h => V.sumQ k x n h (ix2 p l)) (fun n => V.addQ p l (8 * k.val + n)) ?_ 8 (le_refl 8)
    intro n hn
    have hk := lt_of_lt_of_eq k.isLt trips_eq
    have ht : 8 * k.val + n < 128 := by omega
    show V.sumQ k x n _ (ix2 p l) + V.dgQ k n hn (ix2 p l) = _
    rw [dgQ_apply, addQ, dif_pos ht]
    rfl
  have h2 := fold_sum (fun k h => V.accQ x k h (ix2 p l)) (fun k => ∑ n ∈ Finset.range 8, V.addQ p l (8 * k + n))
    (fun k hk => h1 ⟨k, hk⟩ _) k0_t1_loop.trips (le_refl _)
  refine h2.trans (congrArg (x (ix2 p l) + ·) ((sum_blocks _ _ _).trans ?_))
  rw [trips_eq]

/-- A trip's token's key gradient scales are the token's column. -/
theorem dyScaleK_apply (p : Fin 8) : V.dyScaleK k n hn (ix2 p 0) = V.dySK (ix3 0 p (tok k n hn)) := by
  unfold dyScaleK
  pointwise
  exact congrArg (fun t => V.dySK (ix3 0 p t)) (col_eq k n hn _)

/-- A trip's token's key scales are the token's column. -/
theorem xScaleK_apply (p : Fin 8) : V.xScaleK k n hn (ix2 p 0) = V.xSK (ix3 0 p (tok k n hn)) := by
  unfold xScaleK
  pointwise
  exact congrArg (fun t => V.xSK (ix3 0 p t)) (col_eq k n hn _)

/-- A trip's token's key gradient: its rows of the block times its column of the scales. -/
theorem dyK_apply (p : Fin 8) (l : Fin 128) : V.dyRowsK k n hn (ix2 p l) * V.dyScaleK k n hn (ix2 p 0) =
    scaled (H := 8) (R := 1024) (by decide) V.dyK V.dySK (tok k n hn) p l := by
  rw [dyScaleK_apply]
  unfold dyRowsK scaled
  pointwise
  have h0 : k0_off3 k (BitVec.ofNat 32 n) 0 = 64 * k.val + 8 * n := congrFun (k0_off3_eq k ⟨n, hn⟩) 0
  have h1 : k0_off3 k (BitVec.ofNat 32 n) 1 = 0 := congrFun (k0_off3_eq k ⟨n, hn⟩) 1
  have ht : (tok k n hn).val = 8 * k.val + n := rfl
  refine congrArg (· * _) (congrArg V.dyK (congrArg₂ ix2 (Fin.ext ?_) (Fin.ext ?_)))
  · show _ + p.val = (tok k n hn).val * 8 + p.val
    omega
  · show _ + l.val = l.val
    omega

/-- A trip's token's key input: its rows of the block times its column of the scales. -/
theorem xK_apply (p : Fin 8) (l : Fin 128) : V.xRowsK k n hn (ix2 p l) * V.xScaleK k n hn (ix2 p 0) =
    scaled (H := 8) (R := 1024) (by decide) V.xK V.xSK (tok k n hn) p l := by
  rw [xScaleK_apply]
  unfold xRowsK scaled
  pointwise
  have h0 : k0_off3 k (BitVec.ofNat 32 n) 0 = 64 * k.val + 8 * n := congrFun (k0_off3_eq k ⟨n, hn⟩) 0
  have h1 : k0_off3 k (BitVec.ofNat 32 n) 1 = 0 := congrFun (k0_off3_eq k ⟨n, hn⟩) 1
  have ht : (tok k n hn).val = 8 * k.val + n := rfl
  refine congrArg (· * _) (congrArg V.xK (congrArg₂ ix2 (Fin.ext ?_) (Fin.ext ?_)))
  · show _ + p.val = (tok k n hn).val * 8 + p.val
    omega
  · show _ + l.val = l.val
    omega

/-- A trip's token's key input gradient. -/
theorem dxK_apply (p : Fin 8) (l : Fin 128) : V.dxK k n hn (ix2 p l) =
    Spec.dx (nK (F := Ideal)) (V.tokXK (tok k n hn)) (V.tokDnK (tok k n hn)) (fun p l => V.gK (ix2 p l)) p l := by
  unfold dxK
  rw [dx_apply, View.ld_unit_zero (S := S8x128) Bufs.off00]
  simp only [V.dyK_apply, V.xK_apply, V.cosRow_apply, V.sinRow_apply]
  rfl
/-- What a trip's token adds to the key norm's gradient. -/
theorem dgK_apply (p : Fin 8) (l : Fin 128) : V.dgK k n hn (ix2 p l) =
    Spec.dg (nK (F := Ideal)) (V.tokXK (tok k n hn)) (V.tokDnK (tok k n hn)) p l := by
  unfold dgK
  rw [dg_apply]
  simp only [V.dyK_apply, V.xK_apply, V.cosRow_apply, V.sinRow_apply]
  rfl

/-- The block's key input gradient, token by token. -/
theorem outK_apply (t : Fin 128) (p : Fin 8) (l : Fin 128) (r : Fin 1024) (hr : r.val = t.val * 8 + p.val) :
    V.outK (ix2 r l) =
      Spec.dx (nK (F := Ideal)) (V.tokXK t) (V.tokDnK t) (fun p l => V.gK (ix2 p l)) p l := by
  have hp := p.isLt
  have hd : r.val / 8 = t.val := by omega
  have hm : r.val % 8 = p.val := by omega
  unfold outK stack
  refine (dxK_apply V _ _ _ _ _).trans ?_
  have key : ∀ t' p', t' = t → p' = p → Spec.dx (nK (F := Ideal)) (V.tokXK t') (V.tokDnK t') (fun p l => V.gK (ix2 p l)) p' l =
      Spec.dx (nK (F := Ideal)) (V.tokXK t) (V.tokDnK t) (fun p l => V.gK (ix2 p l)) p l := by
    rintro _ _ rfl rfl
    rfl
  refine key _ _ (Fin.ext ?_) (Fin.ext hm)
  show 8 * (r.val / 8 / 8) + r.val / 8 % 8 = t.val
  omega

/-- What the block's token number `t` adds to the key norm's gradient. -/
def addK (p : Fin 8) (l : Fin 128) (t : ℕ) : EReal :=
  if h : t < 128 then Spec.dg (nK (F := Ideal)) (V.tokXK ⟨t, h⟩) (V.tokDnK ⟨t, h⟩) p l else 0

/-- The key norm's gradient after a whole block: what it was plus what each token adds. -/
theorem endK_apply (x : FVec Ideal S8x128 .f32) (p : Fin 8) (l : Fin 128) :
    V.endK x (ix2 p l) = x (ix2 p l) + ∑ t ∈ Finset.range 128, V.addK p l t := by
  have h1 : ∀ (k : Fin k0_t1_loop.trips) (x : FVec Ideal S8x128 .f32),
      V.sumK k x 8 (le_refl 8) (ix2 p l) = x (ix2 p l) + ∑ n ∈ Finset.range 8, V.addK p l (8 * k.val + n) := by
    intro k x
    refine fold_sum (fun n h => V.sumK k x n h (ix2 p l)) (fun n => V.addK p l (8 * k.val + n)) ?_ 8 (le_refl 8)
    intro n hn
    have hk := lt_of_lt_of_eq k.isLt trips_eq
    have ht : 8 * k.val + n < 128 := by omega
    show V.sumK k x n _ (ix2 p l) + V.dgK k n hn (ix2 p l) = _
    rw [dgK_apply, addK, dif_pos ht]
    rfl
  have h2 := fold_sum (fun k h => V.accK x k h (ix2 p l)) (fun k => ∑ n ∈ Finset.range 8, V.addK p l (8 * k + n))
    (fun k hk => h1 ⟨k, hk⟩ _) k0_t1_loop.trips (le_refl _)
  refine h2.trans (congrArg (x (ix2 p l) + ·) ((sum_blocks _ _ _).trans ?_))
  rw [trips_eq]

end Vals

end Cert.KernelIdeal.Token

end
-- ==== Proof.Whole.lean ====
/-
  The mathematics of the whole arrays: each token's gradients from the arguments, and the norms' gradients over all tokens.
-/
module

public import proofs.«01_k».proof.Proof.Spec

@[expose] public section

set_option maxRecDepth 16384

noncomputable section

namespace Cert.Spec

open Idealize.ShloMosaic

/-- The sequence of token `T`. -/
def seqOf (T : Fin 2048) : Fin 2 := ⟨T.val / 1024, by have := T.isLt; omega⟩
/-- The place of token `T` in its sequence. -/
def posOf (T : Fin 2048) : Fin 1024 := ⟨T.val % 1024, Nat.mod_lt _ (by decide)⟩
/-- The frequency a lane turns at. -/
def lane (l : Fin 128) : Fin 64 := ⟨l.val % 64, Nat.mod_lt _ (by decide)⟩

/-- Frequency `j`: theta to the power `-(2 j / 128)`. -/
def freq (j : Fin 64) : EReal :=
  Ideal.pow (Ideal.ofBits FTy.f32 1232348160#32)
    (-Ideal.div (Ideal.ofBits FTy.f32 1073741824#32 * FloatOps.sitofp (F := Ideal) FTy.f32 (BitVec.ofNat 32 j.val))
        (Ideal.ofBits FTy.f32 1124073472#32))
/-- The angle of frequency `j` at token `T`. -/
def angle (pos : Shape.Idx ⟨2, ![2, 1024]⟩ → BitVec 32) (T : Fin 2048) (j : Fin 64) : EReal :=
  FloatOps.sitofp (F := Ideal) FTy.f32 (pos (ix2 (seqOf T) (posOf T))) * freq j
/-- The sign of the sine in a lane. -/
def sign (l : Fin 128) : EReal := if l.val < 64 then 1 else -1

variable {H : ℕ} (N : EReal) (pos : Shape.Idx ⟨2, ![2, 1024]⟩ → BitVec 32)
  (dyc xc : Shape.Idx ⟨4, ![2, 1024, H, 128]⟩ → EReal) (dys xs : Shape.Idx ⟨3, ![2, 1024, H]⟩ → EReal)
  (g : Shape.Idx ⟨2, ![H, 128]⟩ → EReal)

/-- Token `T` of an array of codes times its scales. -/
def token (T : Fin 2048) (p : Fin H) (l : Fin 128) : EReal :=
  xc (ix4 (seqOf T) (posOf T) p l) * xs (ix3 (seqOf T) (posOf T) p)
/-- The gradient of token `T` rotated back, `C` the cosines and `S` the sines of its frequencies. -/
def turnedBy (C S : Fin 64 → EReal) (T : Fin 2048) : Fin H → Fin 128 → EReal :=
  rotate (token dyc dys T) (fun l => C (lane l)) (fun l => S (lane l) * sign l)
/-- The rotated gradient of token `T`. -/
def turned (T : Fin 2048) : Fin H → Fin 128 → EReal :=
  turnedBy dyc dys (fun j => Ideal.cos (angle pos T j)) (fun j => Ideal.sin (angle pos T j)) T
/-- The input gradient of token `T`. -/
def grad (T : Fin 2048) : Fin H → Fin 128 → EReal :=
  dx N (token xc xs T) (turned pos dyc dys T) (fun p l => g (ix2 p l))
/-- The input gradients, one row per head of a token. -/
def gradRows {R : ℕ} (hR : R = 2048 * H) (i : Shape.Idx ⟨2, ![R, 128]⟩) : EReal :=
  have h : (i 0).val < 2048 * H := lt_of_lt_of_eq (i 0).isLt hR
  grad N pos dyc xc dys xs g ⟨(i 0).val / H, Nat.div_lt_of_lt_mul (by rwa [Nat.mul_comm] at h)⟩
    ⟨(i 0).val % H, Nat.mod_lt _ (Nat.pos_of_ne_zero fun h0 => by subst h0; simp at h)⟩ (i 1)
/-- What the token number `t` adds to the norm's gradient. -/
def part (p : Fin H) (l : Fin 128) (t : ℕ) : EReal :=
  if h : t < 2048 then dg N (token xc xs ⟨t, h⟩) (turned pos dyc dys ⟨t, h⟩) p l else 0
/-- The gradient of the norm's weights: over all tokens. -/
def weightGrad (i : Shape.Idx ⟨2, ![H, 128]⟩) : EReal :=
  ∑ t ∈ Finset.range 2048, part N pos dyc xc dys xs (i 0) (i 1) t

/-! ## The same numbers as means over whole arrays -/

/-- A mean over a token is its sum times the reciprocal of the count. -/
theorem rstd_of_mean (y : ℝ) (hy : y ≠ 0) (x : Fin H → Fin 128 → EReal) :
    Ideal.rsqrt (Ideal.div (∑ p, ∑ l, x p l * x p l) (y : EReal) + Ideal.ofBits .f32 0x358637BD#32) = rstd ((1 / y : ℝ) : EReal) x := by
  rw [Ideal.div_coe hy, Finset.sum_comm]
  rfl

/-- A token's input gradient, its two means taken by division. -/
theorem dx_of_mean (y : ℝ) (hy : y ≠ 0) (x dn g : Fin H → Fin 128 → EReal) (p : Fin H) (l : Fin 128) :
    rstd ((1 / y : ℝ) : EReal) x * (dn p l * g p l - x p l * rstd ((1 / y : ℝ) : EReal) x *
        Ideal.div (∑ p, ∑ l, dn p l * g p l * (x p l * rstd ((1 / y : ℝ) : EReal) x)) (y : EReal)) =
      dx ((1 / y : ℝ) : EReal) x dn g p l := by
  rw [Ideal.div_coe hy, Finset.sum_comm]
  unfold dx dg
  simp only [mul_right_comm]

/-- A sum over sequences and places is a sum over tokens. -/
theorem sum_tokens (f : Fin 2 → Fin 1024 → EReal) :
    ∑ b, ∑ s, f b s = ∑ t ∈ Finset.range 2048, if h : t < 2048 then f (seqOf ⟨t, h⟩) (posOf ⟨t, h⟩) else 0 := by
  rw [Finset.sum_range, ← Fintype.sum_prod_type']
  refine Fintype.sum_equiv (finProdFinEquiv (m := 2) (n := 1024)) _ _ fun x => ?_
  have h : (finProdFinEquiv x).val < 2048 := (finProdFinEquiv x).isLt
  have h0 := x.1.isLt
  have h1 := x.2.isLt
  have hv : (finProdFinEquiv x).val = x.2.val + 1024 * x.1.val := rfl
  rw [dif_pos h]
  have e1 : seqOf ⟨(finProdFinEquiv x).val, h⟩ = x.1 := Fin.ext (by show (finProdFinEquiv x).val / 1024 = _; omega)
  have e2 : posOf ⟨(finProdFinEquiv x).val, h⟩ = x.2 := Fin.ext (by show (finProdFinEquiv x).val % 1024 = _; omega)
  rw [e1, e2]

/-- The two rotated halves, by halves. -/
theorem rotate_halves (dy : Fin H → Fin 128 → EReal) (C S : Fin 64 → EReal) (p : Fin H) (l : Fin 128)
    (h₁ : l.val < 64 → l.val < 64) (h₂ : l.val < 64 → 64 + l.val < 128) (h₃ : ¬l.val < 64 → l.val - 64 < 64)
    (h₄ : ¬l.val < 64 → 64 + (l.val - 64) < 128) (h₅ : ¬l.val < 64 → l.val - 64 < 128) :
    (if h : l.val < 64 then dy p l * C ⟨l.val, h₁ h⟩ + dy p ⟨64 + l.val, h₂ h⟩ * S ⟨l.val, h₁ h⟩
      else dy p ⟨64 + (l.val - 64), h₄ h⟩ * C ⟨l.val - 64, h₃ h⟩ - dy p ⟨l.val - 64, h₅ h⟩ * S ⟨l.val - 64, h₃ h⟩) =
      rotate dy (fun l => C (lane l)) (fun l => S (lane l) * sign l) p l := by
  have hl := l.isLt
  unfold rotate sign
  dsimp only
  by_cases h : l.val < 64
  · rw [dif_pos h, if_pos h]
    have e1 : lane l = ⟨l.val, h₁ h⟩ := Fin.ext (show l.val % 64 = l.val by omega)
    have e2 : (⟨(l.val + 64) % 128, Nat.mod_lt _ (by decide)⟩ : Fin 128) = ⟨64 + l.val, h₂ h⟩ :=
      Fin.ext (show (l.val + 64) % 128 = 64 + l.val by omega)
    rw [e1, e2, mul_one]
  · rw [dif_neg h, if_neg h]
    have e1 : lane l = ⟨l.val - 64, h₃ h⟩ := Fin.ext (show l.val % 64 = l.val - 64 by omega)
    have e2 : (⟨(l.val + 64) % 128, Nat.mod_lt _ (by decide)⟩ : Fin 128) = ⟨l.val - 64, h₅ h⟩ :=
      Fin.ext (show (l.val + 64) % 128 = l.val - 64 by omega)
    have e3 : (⟨64 + (l.val - 64), h₄ h⟩ : Fin 128) = l := Fin.ext (show 64 + (l.val - 64) = l.val by omega)
    rw [e1, e2, e3, mul_neg, mul_neg, mul_one, sub_eq_add_neg]

end Cert.Spec

end
-- ==== Proof.Entry.lean ====
/-
  What the blocks of a grid point hold, read off the arguments.
-/
module

public import proofs.«01_k».proof.Proof.Run
public import proofs.«01_k».proof.Proof.Block
public import proofs.«01_k».proof.Proof.Whole
public import Idealize.ShloMosaic.Lib.Pipeline.ValueKit
public import Idealize.ShloMosaic.Lib.StableHlo.ReadAt
public import Idealize.ShloMosaic.Lib.StableHlo.RunRead

@[expose] public section

set_option maxRecDepth 16384

noncomputable section

namespace Cert.KernelIdeal.Token

open Idealize.ShloMosaic Idealize.ShloMosaic.TcCoe Idealize.SL.Sem
open Cert.KernelIdeal Cert.KernelIdeal.Gen

variable (m : (ℓ : Loc nD τ sig) → Buf (Elt Ideal) ℓ) (c : Dev nD) (t : Fin cfg0.N)

/-! ## The arguments -/

/-- Argument 0. -/
abbrev a_dyQ := m ((c.tc : Thread nD τ).loc main_arg0)
/-- Argument 1. -/
abbrev a_dySQ := m ((c.tc : Thread nD τ).loc main_arg1)
/-- Argument 2. -/
abbrev a_dyK := m ((c.tc : Thread nD τ).loc main_arg2)
/-- Argument 3. -/
abbrev a_dySK := m ((c.tc : Thread nD τ).loc main_arg3)
/-- Argument 4. -/
abbrev a_xQ := m ((c.tc : Thread nD τ).loc main_arg4)
/-- Argument 5. -/
abbrev a_xSQ := m ((c.tc : Thread nD τ).loc main_arg5)
/-- Argument 6. -/
abbrev a_xK := m ((c.tc : Thread nD τ).loc main_arg6)
/-- Argument 7. -/
abbrev a_xSK := m ((c.tc : Thread nD τ).loc main_arg7)
/-- Argument 8. -/
abbrev a_gQ := m ((c.tc : Thread nD τ).loc main_arg8)
/-- Argument 9. -/
abbrev a_gK := m ((c.tc : Thread nD τ).loc main_arg9)
/-- Argument 10. -/
abbrev a_pos := m ((c.tc : Thread nD τ).loc main_arg10)

/-! ## The host's arrays at an index -/

/-- Indices with equal coordinates. -/
theorem ix4_congr {n₁ n₂ n₃ n₄ : ℕ} {a a' : Fin n₁} {b b' : Fin n₂} {p p' : Fin n₃} (l : Fin n₄) (ha : a = a') (hb : b = b')
    (hp : p = p') : ix4 a b p l = ix4 a' b' p' l := by
  rw [ha, hb, hp]

/-- The positions, one row per token. -/
theorem V_v16 (r : Fin 2048) (q : Fin 1) : V m c main_v16 (ix2 r q) = a_pos m c (ix2 (Spec.seqOf r) (Spec.posOf r)) := by
  unfold V
  simp only [hostOps0, hostOps0_1, hostOps0_2, List.flatten_cons, List.flatten_nil, List.append_nil, List.cons_append, List.nil_append]
  after_reads_at
  rfl

/-- The frequencies, both halves of the lanes. -/
theorem V_v9 (q : Fin 1) (l : Fin 128) : V m c main_v9 (ix2 q l) = Spec.freq (Spec.lane l) := by
  have hl := l.isLt
  unfold V
  simp only [hostOps0, hostOps0_1, hostOps0_2, List.flatten_cons, List.flatten_nil, List.append_nil, List.cons_append, List.nil_append]
  after_reads_at
  unfold Spec.freq Spec.lane
  split <;> after_reads_at
  · rw [show l.val % 64 = l.val by omega]
  · rw [show l.val % 64 = l.val - 64 by omega]

/-- Whether a lane is in the first half, as the host compares. -/
theorem slt_lane : ∀ l : Fin 128, IntOp.cmpi CmpIPredicate.slt (BitVec.ofNat 32 l.val) 64#32 = if l.val < 64 then 1#1 else 0#1 := by
  decide +kernel

/-- The signs of the sines. -/
theorem V_v15 (q : Fin 1) (l : Fin 128) : V m c main_v15 (ix2 q l) = Spec.sign l := by
  unfold V
  simp only [hostOps0, hostOps0_1, hostOps0_2, List.flatten_cons, List.flatten_nil, List.append_nil, List.cons_append, List.nil_append]
  after_reads_at
  simp only [id_eq]
  pointwise
  have h1 : Ideal.ofBits FTy.f32 3212836864#32 = -1 := by
    simp [Ideal.ofBits, Ideal.ieee, -EReal.coe_mul]
    norm_num
  rw [slt_lane, h1]
  unfold Spec.sign
  split <;> rfl

/-- Argument 1, transposed. -/
theorem V_v17 (b : Fin 2) (p : Fin 40) (s : Fin 1024) : V m c main_v17 (ix3 b p s) = a_dySQ m c (ix3 b s p) := by
  unfold V
  simp only [hostOps0, hostOps0_1, hostOps0_2, List.flatten_cons, List.flatten_nil, List.append_nil, List.cons_append, List.nil_append]
  after_reads_at

/-- Argument 5, transposed. -/
theorem V_v18 (b : Fin 2) (p : Fin 40) (s : Fin 1024) : V m c main_v18 (ix3 b p s) = a_xSQ m c (ix3 b s p) := by
  unfold V
  simp only [hostOps0, hostOps0_1, hostOps0_2, List.flatten_cons, List.flatten_nil, List.append_nil, List.cons_append, List.nil_append]
  after_reads_at

/-- Argument 3, transposed. -/
theorem V_v19 (b : Fin 2) (p : Fin 8) (s : Fin 1024) : V m c main_v19 (ix3 b p s) = a_dySK m c (ix3 b s p) := by
  unfold V
  simp only [hostOps0, hostOps0_1, hostOps0_2, List.flatten_cons, List.flatten_nil, List.append_nil, List.cons_append, List.nil_append]
  after_reads_at

/-- Argument 7, transposed. -/
theorem V_v20 (b : Fin 2) (p : Fin 8) (s : Fin 1024) : V m c main_v20 (ix3 b p s) = a_xSK m c (ix3 b s p) := by
  unfold V
  simp only [hostOps0, hostOps0_1, hostOps0_2, List.flatten_cons, List.flatten_nil, List.append_nil, List.cons_append, List.nil_append]
  after_reads_at

/-- Argument 0, one row per head of a token. -/
theorem V_v21 (r : Fin 81920) (l : Fin 128) (T : Fin 2048) (p : Fin 40) (hr : r.val = T.val * 40 + p.val) :
    V m c main_v21 (ix2 r l) = a_dyQ m c (ix4 (Spec.seqOf T) (Spec.posOf T) p l) := by
  have hp := p.isLt
  have h1 : r.val / 40960 = T.val / 1024 := by omega
  have h2 : r.val / 40 % 1024 = T.val % 1024 := by omega
  have h3 : r.val % 40 = p.val := by omega
  unfold V
  simp only [hostOps0, hostOps0_1, hostOps0_2, List.flatten_cons, List.flatten_nil, List.append_nil, List.cons_append, List.nil_append]
  after_reads_at
  exact congrArg (m (c, Proc.tc.devRef main_arg0)) (ix4_congr l (Fin.ext h1) (Fin.ext h2) (Fin.ext h3))

/-- Argument 4, one row per head of a token. -/
theorem V_v22 (r : Fin 81920) (l : Fin 128) (T : Fin 2048) (p : Fin 40) (hr : r.val = T.val * 40 + p.val) :
    V m c main_v22 (ix2 r l) = a_xQ m c (ix4 (Spec.seqOf T) (Spec.posOf T) p l) := by
  have hp := p.isLt
  have h1 : r.val / 40960 = T.val / 1024 := by omega
  have h2 : r.val / 40 % 1024 = T.val % 1024 := by omega
  have h3 : r.val % 40 = p.val := by omega
  unfold V
  simp only [hostOps0, hostOps0_1, hostOps0_2, List.flatten_cons, List.flatten_nil, List.append_nil, List.cons_append, List.nil_append]
  after_reads_at
  exact congrArg (m (c, Proc.tc.devRef main_arg4)) (ix4_congr l (Fin.ext h1) (Fin.ext h2) (Fin.ext h3))

/-- Argument 2, one row per head of a token. -/
theorem V_v23 (r : Fin 16384) (l : Fin 128) (T : Fin 2048) (p : Fin 8) (hr : r.val = T.val * 8 + p.val) :
    V m c main_v23 (ix2 r l) = a_dyK m c (ix4 (Spec.seqOf T) (Spec.posOf T) p l) := by
  have hp := p.isLt
  have h1 : r.val / 8192 = T.val / 1024 := by omega
  have h2 : r.val / 8 % 1024 = T.val % 1024 := by omega
  have h3 : r.val % 8 = p.val := by omega
  unfold V
  simp only [hostOps0, hostOps0_1, hostOps0_2, List.flatten_cons, List.flatten_nil, List.append_nil, List.cons_append, List.nil_append]
  after_reads_at
  exact congrArg (m (c, Proc.tc.devRef main_arg2)) (ix4_congr l (Fin.ext h1) (Fin.ext h2) (Fin.ext h3))

/-- Argument 6, one row per head of a token. -/
theorem V_v24 (r : Fin 16384) (l : Fin 128) (T : Fin 2048) (p : Fin 8) (hr : r.val = T.val * 8 + p.val) :
    V m c main_v24 (ix2 r l) = a_xK m c (ix4 (Spec.seqOf T) (Spec.posOf T) p l) := by
  have hp := p.isLt
  have h1 : r.val / 8192 = T.val / 1024 := by omega
  have h2 : r.val / 8 % 1024 = T.val % 1024 := by omega
  have h3 : r.val % 8 = p.val := by omega
  unfold V
  simp only [hostOps0, hostOps0_1, hostOps0_2, List.flatten_cons, List.flatten_nil, List.append_nil, List.cons_append, List.nil_append]
  after_reads_at
  exact congrArg (m (c, Proc.tc.devRef main_arg6)) (ix4_congr l (Fin.ext h1) (Fin.ext h2) (Fin.ext h3))

/-! ## The blocks -/

/-- Where window 0 is. -/
theorem idx0 : ∀ t, win0_0.index t = ![t.val, 0] := by decide +kernel
/-- Where window 1 is. -/
theorem idx1 : ∀ t, win0_1.index t = ![0, 0] := by decide +kernel
/-- Where window 2 is. -/
theorem idx2 : ∀ t, win0_2.index t = ![0, 0] := by decide +kernel
/-- Where window 3 is. -/
theorem idx3 : ∀ t, win0_3.index t = ![0, 0] := by decide +kernel
/-- Where window 4 is. -/
theorem idx4 : ∀ t, win0_4.index t = ![0, 0] := by decide +kernel
/-- Where window 5 is. -/
theorem idx5 : ∀ t, win0_5.index t = ![t.val / 8, 0, t.val % 8] := by decide +kernel
/-- Where window 6 is. -/
theorem idx6 : ∀ t, win0_6.index t = ![t.val / 8, 0, t.val % 8] := by decide +kernel
/-- Where window 7 is. -/
theorem idx7 : ∀ t, win0_7.index t = ![t.val / 8, 0, t.val % 8] := by decide +kernel
/-- Where window 8 is. -/
theorem idx8 : ∀ t, win0_8.index t = ![t.val / 8, 0, t.val % 8] := by decide +kernel
/-- Where window 9 is. -/
theorem idx9 : ∀ t, win0_9.index t = ![t.val, 0] := by decide +kernel
/-- Where window 10 is. -/
theorem idx10 : ∀ t, win0_10.index t = ![t.val, 0] := by decide +kernel
/-- Where window 11 is. -/
theorem idx11 : ∀ t, win0_11.index t = ![t.val, 0] := by decide +kernel
/-- Where window 12 is. -/
theorem idx12 : ∀ t, win0_12.index t = ![t.val, 0] := by decide +kernel
/-- Where window 13 is. -/
theorem idx13 : ∀ t, win0_13.index t = ![t.val, 0] := by decide +kernel
/-- Where window 14 is. -/
theorem idx14 : ∀ t, win0_14.index t = ![t.val, 0] := by decide +kernel
/-- Where window 15 is. -/
theorem idx15 : ∀ t, win0_15.index t = ![0, 0] := by decide +kernel
/-- Where window 16 is. -/
theorem idx16 : ∀ t, win0_16.index t = ![0, 0] := by decide +kernel

/-- Token `s` of grid point `t`. -/
def tokenAt (t : Fin cfg0.N) (s : Fin 128) : Fin 2048 :=
  ⟨128 * t.val + s.val, by have := lt_of_lt_of_eq t.isLt (show cfg0.N = 16 from N_0); omega⟩

/-- The positions of the point's tokens. -/
theorem blk_pos (s : Fin 128) (q : Fin 1) : iblk m c 0 t (ix2 s q) = a_pos m c (ix2 (Spec.seqOf (tokenAt t s)) (Spec.posOf (tokenAt t s))) := by
  refine Eq.trans ?_ (V_v16 m c (tokenAt t s) q)
  unfold tokenAt
  blk_ext [iblk, idx0]

/-- The frequencies, at every point. -/
theorem blk_freq (q : Fin 1) (l : Fin 128) : iblk m c 1 t (ix2 q l) = Spec.freq (Spec.lane l) := by
  refine Eq.trans ?_ (V_v9 m c q l)
  blk_ext [iblk, idx1]

/-- The signs, at every point. -/
theorem blk_sign (q : Fin 1) (l : Fin 128) : iblk m c 2 t (ix2 q l) = Spec.sign l := by
  refine Eq.trans ?_ (V_v15 m c q l)
  blk_ext [iblk, idx2]

/-- The weights, at every point. -/
theorem blk_gQ (p : Fin 40) (l : Fin 128) : iblk m c 3 t (ix2 p l) = a_gQ m c (ix2 p l) := by
  refine Eq.trans ?_ (congrFun (V_main_arg8 m c) (ix2 p l))
  blk_ext [iblk, idx3]

/-- The weights, at every point. -/
theorem blk_gK (p : Fin 8) (l : Fin 128) : iblk m c 4 t (ix2 p l) = a_gK m c (ix2 p l) := by
  refine Eq.trans ?_ (congrFun (V_main_arg9 m c) (ix2 p l))
  blk_ext [iblk, idx4]

/-- The scales of the point's tokens. -/
theorem blk_dySQ (p : Fin 40) (s : Fin 128) : iblk m c 5 t (ix3 0 p s) = a_dySQ m c (ix3 (Spec.seqOf (tokenAt t s)) (Spec.posOf (tokenAt t s)) p) := by
  refine Eq.trans ?_ (V_v17 m c (Spec.seqOf (tokenAt t s)) p (Spec.posOf (tokenAt t s)))
  unfold Spec.seqOf Spec.posOf tokenAt
  blk_ext [iblk, idx5]

/-- The scales of the point's tokens. -/
theorem blk_xSQ (p : Fin 40) (s : Fin 128) : iblk m c 6 t (ix3 0 p s) = a_xSQ m c (ix3 (Spec.seqOf (tokenAt t s)) (Spec.posOf (tokenAt t s)) p) := by
  refine Eq.trans ?_ (V_v18 m c (Spec.seqOf (tokenAt t s)) p (Spec.posOf (tokenAt t s)))
  unfold Spec.seqOf Spec.posOf tokenAt
  blk_ext [iblk, idx6]

/-- The scales of the point's tokens. -/
theorem blk_dySK (p : Fin 8) (s : Fin 128) : iblk m c 7 t (ix3 0 p s) = a_dySK m c (ix3 (Spec.seqOf (tokenAt t s)) (Spec.posOf (tokenAt t s)) p) := by
  refine Eq.trans ?_ (V_v19 m c (Spec.seqOf (tokenAt t s)) p (Spec.posOf (tokenAt t s)))
  unfold Spec.seqOf Spec.posOf tokenAt
  blk_ext [iblk, idx7]

/-- The scales of the point's tokens. -/
theorem blk_xSK (p : Fin 8) (s : Fin 128) : iblk m c 8 t (ix3 0 p s) = a_xSK m c (ix3 (Spec.seqOf (tokenAt t s)) (Spec.posOf (tokenAt t s)) p) := by
  refine Eq.trans ?_ (V_v20 m c (Spec.seqOf (tokenAt t s)) p (Spec.posOf (tokenAt t s)))
  unfold Spec.seqOf Spec.posOf tokenAt
  blk_ext [iblk, idx8]

/-- The codes of the point's tokens. -/
theorem blk_dyQ (s : Fin 128) (p : Fin 40) (l : Fin 128) (h : s.val * 40 + p.val < 5120) :
    iblk m c 9 t (ix2 ⟨s.val * 40 + p.val, h⟩ l) =
      a_dyQ m c (ix4 (Spec.seqOf (tokenAt t s)) (Spec.posOf (tokenAt t s)) p l) := by
  have ht := lt_of_lt_of_eq t.isLt (show cfg0.N = 16 from N_0)
  refine Eq.trans ?_ (V_v21 m c ⟨t.val * 5120 + (s.val * 40 + p.val), by omega⟩ l (tokenAt t s) p
    (by show t.val * 5120 + (s.val * 40 + p.val) = (128 * t.val + s.val) * 40 + p.val; ring))
  blk_ext [iblk, idx9]

/-- The codes of the point's tokens. -/
theorem blk_xQ (s : Fin 128) (p : Fin 40) (l : Fin 128) (h : s.val * 40 + p.val < 5120) :
    iblk m c 10 t (ix2 ⟨s.val * 40 + p.val, h⟩ l) =
      a_xQ m c (ix4 (Spec.seqOf (tokenAt t s)) (Spec.posOf (tokenAt t s)) p l) := by
  have ht := lt_of_lt_of_eq t.isLt (show cfg0.N = 16 from N_0)
  refine Eq.trans ?_ (V_v22 m c ⟨t.val * 5120 + (s.val * 40 + p.val), by omega⟩ l (tokenAt t s) p
    (by show t.val * 5120 + (s.val * 40 + p.val) = (128 * t.val + s.val) * 40 + p.val; ring))
  blk_ext [iblk, idx10]

/-- The codes of the point's tokens. -/
theorem blk_dyK (s : Fin 128) (p : Fin 8) (l : Fin 128) (h : s.val * 8 + p.val < 1024) :
    iblk m c 11 t (ix2 ⟨s.val * 8 + p.val, h⟩ l) =
      a_dyK m c (ix4 (Spec.seqOf (tokenAt t s)) (Spec.posOf (tokenAt t s)) p l) := by
  have ht := lt_of_lt_of_eq t.isLt (show cfg0.N = 16 from N_0)
  refine Eq.trans ?_ (V_v23 m c ⟨t.val * 1024 + (s.val * 8 + p.val), by omega⟩ l (tokenAt t s) p
    (by show t.val * 1024 + (s.val * 8 + p.val) = (128 * t.val + s.val) * 8 + p.val; ring))
  blk_ext [iblk, idx11]

/-- The codes of the point's tokens. -/
theorem blk_xK (s : Fin 128) (p : Fin 8) (l : Fin 128) (h : s.val * 8 + p.val < 1024) :
    iblk m c 12 t (ix2 ⟨s.val * 8 + p.val, h⟩ l) =
      a_xK m c (ix4 (Spec.seqOf (tokenAt t s)) (Spec.posOf (tokenAt t s)) p l) := by
  have ht := lt_of_lt_of_eq t.isLt (show cfg0.N = 16 from N_0)
  refine Eq.trans ?_ (V_v24 m c ⟨t.val * 1024 + (s.val * 8 + p.val), by omega⟩ l (tokenAt t s) p
    (by show t.val * 1024 + (s.val * 8 + p.val) = (128 * t.val + s.val) * 8 + p.val; ring))
  blk_ext [iblk, idx12]

/-! ## The point's tokens -/

/-- The cosines of token `s`. -/
theorem cos_apply (s l : Fin 128) :
    (pointVals m c t).cos (ix2 s l) = Ideal.cos (Spec.angle (a_pos m c) (tokenAt t s) (Spec.lane l)) := by
  have h : (pointVals m c t).cos (ix2 s l)
      = Ideal.cos (FloatOps.sitofp (F := Ideal) FTy.f32 (iblk m c 0 t (ix2 s 0)) * iblk m c 1 t (ix2 0 l)) := by
    unfold pointVals blockVals
    dsimp only
    generalize iblk m c 0 t = x0
    generalize iblk m c 1 t = x1
    unfold k0_pay4 k0_pay3
    pointwise
  rw [h]
  exact congrArg Ideal.cos (congrArg₂ (fun a b => FloatOps.sitofp (F := Ideal) FTy.f32 a * b) (blk_pos m c t s 0) (blk_freq m c t 0 l))

/-- The signed sines of token `s`. -/
theorem sin_apply (s l : Fin 128) :
    (pointVals m c t).sin (ix2 s l) = Ideal.sin (Spec.angle (a_pos m c) (tokenAt t s) (Spec.lane l)) * Spec.sign l := by
  have h : (pointVals m c t).sin (ix2 s l)
      = Ideal.sin (FloatOps.sitofp (F := Ideal) FTy.f32 (iblk m c 0 t (ix2 s 0)) * iblk m c 1 t (ix2 0 l)) * iblk m c 2 t (ix2 0 l) := by
    unfold pointVals blockVals
    dsimp only
    generalize iblk m c 0 t = x0
    generalize iblk m c 1 t = x1
    generalize iblk m c 2 t = x2
    unfold k0_pay5 k0_pay3
    pointwise
  rw [h]
  exact congrArg₂ (· * ·) (congrArg Ideal.sin (congrArg₂ (fun a b => FloatOps.sitofp (F := Ideal) FTy.f32 a * b) (blk_pos m c t s 0)
    (blk_freq m c t 0 l))) (blk_sign m c t 0 l)

/-- Token `s`'s input. -/
theorem tokXQ_eq (s : Fin 128) : (pointVals m c t).tokXQ s = Spec.token (a_xQ m c) (a_xSQ m c) (tokenAt t s) := by
  funext p l
  exact congrArg₂ (fun a b : EReal => a * b) (blk_xQ m c t s p l _) (blk_xSQ m c t p s)

/-- Token `s`'s rotated gradient. -/
theorem tokDnQ_eq (s : Fin 128) :
    (pointVals m c t).tokDnQ s = Spec.turned (a_pos m c) (a_dyQ m c) (a_dySQ m c) (tokenAt t s) := by
  have h1 : scaled (by decide) (pointVals m c t).dyQ (pointVals m c t).dySQ s = Spec.token (a_dyQ m c) (a_dySQ m c) (tokenAt t s) := by
    funext p l
    exact congrArg₂ (fun a b : EReal => a * b) (blk_dyQ m c t s p l _) (blk_dySQ m c t p s)
  unfold Vals.tokDnQ Spec.turned Spec.turnedBy
  rw [h1, funext fun l => cos_apply m c t s l, funext fun l => sin_apply m c t s l]

/-- Token `s`'s input. -/
theorem tokXK_eq (s : Fin 128) : (pointVals m c t).tokXK s = Spec.token (a_xK m c) (a_xSK m c) (tokenAt t s) := by
  funext p l
  exact congrArg₂ (fun a b : EReal => a * b) (blk_xK m c t s p l _) (blk_xSK m c t p s)

/-- Token `s`'s rotated gradient. -/
theorem tokDnK_eq (s : Fin 128) :
    (pointVals m c t).tokDnK s = Spec.turned (a_pos m c) (a_dyK m c) (a_dySK m c) (tokenAt t s) := by
  have h1 : scaled (by decide) (pointVals m c t).dyK (pointVals m c t).dySK s = Spec.token (a_dyK m c) (a_dySK m c) (tokenAt t s) := by
    funext p l
    exact congrArg₂ (fun a b : EReal => a * b) (blk_dyK m c t s p l _) (blk_dySK m c t p s)
  unfold Vals.tokDnK Spec.turned Spec.turnedBy
  rw [h1, funext fun l => cos_apply m c t s l, funext fun l => sin_apply m c t s l]

end Cert.KernelIdeal.Token

end
-- ==== Proof.Arrays.lean ====
/-
  The arrays the idealised kernel leaves: every token's input gradient, and the norms' gradients over all tokens.
-/
module

public import proofs.«01_k».proof.Proof.Entry
public import Idealize.ShloMosaic.Lib.Claim

@[expose] public section

set_option maxRecDepth 16384

noncomputable section

namespace Cert.KernelIdeal.Token

open Idealize.ShloMosaic Idealize.ShloMosaic.TcCoe Idealize.SL.Sem
open Cert.KernelIdeal Cert.KernelIdeal.Gen

variable (m : (ℓ : Loc nD τ sig) → Buf (Elt Ideal) ℓ) (c : Dev nD)

/-- The query weights are the argument at every point. -/
theorem gQ_eq (t : Fin cfg0.N) : (fun p l => (pointVals m c t).gQ (ix2 p l)) = fun (p : Fin 40) (l : Fin 128) => a_gQ m c (ix2 p l) :=
  funext fun p => funext fun l => blk_gQ m c t p l

/-- Every row of the query gradients is its token's. -/
theorem final13 : (dats m 0 c).arrAt 13 cfg0.N =
    Spec.gradRows (H := 40) (nQ (F := Ideal)) (a_pos m c) (a_dyQ m c) (a_xQ m c) (a_dySQ m c) (a_xSQ m c) (a_gQ m c)
      (R := 81920) (by decide) := by
  refine (dats m 0 c).arrAt_eq_of_covers 13 _ (by decide +kernel) fun t hf y => ?_
  blk_simp
  rw [after0_13]
  have hy : (y 0).val < 5120 := (y 0).isLt
  have ht := lt_of_lt_of_eq t.isLt (show cfg0.N = 16 from N_0)
  have key : ∀ (s : Fin 128) (p : Fin 40) (l : Fin 128) (r : Fin 5120) (hr : r.val = s.val * 40 + p.val)
      (i : Shape.Idx ⟨2, ![81920, 128]⟩) (h0 : (i 0).val = t.val * 5120 + r.val) (h1 : (i 1).val = l.val),
      (pointVals m c t).outQ (ix2 r l) = Spec.gradRows (H := 40) (nQ (F := Ideal)) (a_pos m c) (a_dyQ m c) (a_xQ m c)
        (a_dySQ m c) (a_xSQ m c) (a_gQ m c) (R := 81920) (by decide) i := by
    intro s p l r hr i h0 h1
    have hp := p.isLt
    rw [Vals.outQ_apply (pointVals m c t) s p l r hr, tokXQ_eq, tokDnQ_eq, gQ_eq]
    unfold Spec.gradRows Spec.grad
    dsimp only
    have e1 : ∀ h, (⟨(i 0).val / 40, h⟩ : Fin 2048) = tokenAt t s := fun h =>
      Fin.ext (show (i 0).val / 40 = 128 * t.val + s.val by omega)
    have e2 : ∀ h, (⟨(i 0).val % 40, h⟩ : Fin 40) = p := fun h => Fin.ext (show (i 0).val % 40 = p.val by omega)
    rw [e1, e2, show i 1 = l from Fin.ext h1]
  have h := key ⟨(y 0).val / 40, by omega⟩ ⟨(y 0).val % 40, by omega⟩ (y 1) (y 0) (by show (y 0).val = (y 0).val / 40 * 40 + (y 0).val % 40; omega)
    (((cfg0.win 13).blk t).view.emb y) (by blk_simp [idx13]) (by blk_simp [idx13])
  refine Eq.trans (congrArg (pointVals m c t).outQ ?_) h
  exact funext fun a => by match a with
    | ⟨0, _⟩ => rfl
    | ⟨1, _⟩ => rfl

/-- What token `t` adds to the query norm's gradient. -/
abbrev partQ (p : Fin 40) (l : Fin 128) (t : ℕ) : EReal :=
  Spec.part (nQ (F := Ideal)) (a_pos m c) (a_dyQ m c) (a_xQ m c) (a_dySQ m c) (a_xSQ m c) p l t

/-- Token `s` of point `t` adds its own part. -/
theorem addQ_eq (t : Fin cfg0.N) (p : Fin 40) (l : Fin 128) (s : ℕ) (hs : s < 128) :
    (pointVals m c t).addQ p l s = partQ m c p l (128 * t.val + s) := by
  have ht := lt_of_lt_of_eq t.isLt (show cfg0.N = 16 from N_0)
  unfold Vals.addQ partQ Spec.part
  rw [dif_pos hs, dif_pos (by omega), tokXQ_eq, tokDnQ_eq]
  rfl

/-- After point `n` the query norm's gradient holds the parts of the tokens so far. -/
theorem gradsQ_eq (p : Fin 40) (l : Fin 128) : ∀ (n : ℕ) (hn : n < cfg0.N),
    (gradsAt m c n hn).1 (ix2 p l) = ∑ t ∈ Finset.range (128 * (n + 1)), partQ m c p l t
  | 0, hn => by
    refine (Vals.endQ_apply (pointVals m c ⟨0, hn⟩) k0_pay1 p l).trans ?_
    have h0 : k0_pay1 (F := Ideal) (ix2 p l) = 0 := by
      unfold k0_pay1
      pointwise
    rw [h0, zero_add]
    refine Finset.sum_congr rfl fun s hs => ?_
    rw [addQ_eq m c ⟨0, hn⟩ p l s (Finset.mem_range.mp hs)]
    exact congrArg (partQ m c p l) (show 128 * 0 + s = s by omega)
  | n + 1, hn => by
    refine (Vals.endQ_apply (pointVals m c ⟨n + 1, hn⟩) _ p l).trans ?_
    rw [gradsQ_eq p l n (Nat.lt_of_succ_lt hn), show 128 * (n + 1 + 1) = 128 * (n + 1) + 128 by ring, Finset.sum_range_add]
    exact congrArg (_ + ·) (Finset.sum_congr rfl fun s hs => addQ_eq m c ⟨n + 1, hn⟩ p l s (Finset.mem_range.mp hs))

/-- The query norm's gradient is the sum over all tokens. -/
theorem final15 : (dats m 0 c).arrAt 15 cfg0.N =
    Spec.weightGrad (H := 40) (nQ (F := Ideal)) (a_pos m c) (a_dyQ m c) (a_xQ m c) (a_dySQ m c) (a_xSQ m c) := by
  refine (dats m 0 c).arrAt_eq_of_after_last 15 t0_15 (by decide +kernel) _ fun j => ?_
  blk_simp
  rw [after0_15]
  have h := gradsQ_eq m c (j 0) (j 1) 15 t0_15.isLt
  refine Eq.trans (congrArg (gradsAt m c 15 t0_15.isLt).1 ?_) h
  exact funext fun a => by match a with
    | ⟨0, _⟩ => rfl
    | ⟨1, _⟩ => rfl

/-- The key weights are the argument at every point. -/
theorem gK_eq (t : Fin cfg0.N) : (fun p l => (pointVals m c t).gK (ix2 p l)) = fun (p : Fin 8) (l : Fin 128) => a_gK m c (ix2 p l) :=
  funext fun p => funext fun l => blk_gK m c t p l

/-- Every row of the key gradients is its token's. -/
theorem final14 : (dats m 0 c).arrAt 14 cfg0.N =
    Spec.gradRows (H := 8) (nK (F := Ideal)) (a_pos m c) (a_dyK m c) (a_xK m c) (a_dySK m c) (a_xSK m c) (a_gK m c)
      (R := 16384) (by decide) := by
  refine (dats m 0 c).arrAt_eq_of_covers 14 _ (by decide +kernel) fun t hf y => ?_
  blk_simp
  rw [after0_14]
  have hy : (y 0).val < 1024 := (y 0).isLt
  have ht := lt_of_lt_of_eq t.isLt (show cfg0.N = 16 from N_0)
  have key : ∀ (s : Fin 128) (p : Fin 8) (l : Fin 128) (r : Fin 1024) (hr : r.val = s.val * 8 + p.val)
      (i : Shape.Idx ⟨2, ![16384, 128]⟩) (h0 : (i 0).val = t.val * 1024 + r.val) (h1 : (i 1).val = l.val),
      (pointVals m c t).outK (ix2 r l) = Spec.gradRows (H := 8) (nK (F := Ideal)) (a_pos m c) (a_dyK m c) (a_xK m c)
        (a_dySK m c) (a_xSK m c) (a_gK m c) (R := 16384) (by decide) i := by
    intro s p l r hr i h0 h1
    have hp := p.isLt
    rw [Vals.outK_apply (pointVals m c t) s p l r hr, tokXK_eq, tokDnK_eq, gK_eq]
    unfold Spec.gradRows Spec.grad
    dsimp only
    have e1 : ∀ h, (⟨(i 0).val / 8, h⟩ : Fin 2048) = tokenAt t s := fun h =>
      Fin.ext (show (i 0).val / 8 = 128 * t.val + s.val by omega)
    have e2 : ∀ h, (⟨(i 0).val % 8, h⟩ : Fin 8) = p := fun h => Fin.ext (show (i 0).val % 8 = p.val by omega)
    rw [e1, e2, show i 1 = l from Fin.ext h1]
  have h := key ⟨(y 0).val / 8, by omega⟩ ⟨(y 0).val % 8, by omega⟩ (y 1) (y 0) (by show (y 0).val = (y 0).val / 8 * 8 + (y 0).val % 8; omega)
    (((cfg0.win 14).blk t).view.emb y) (by blk_simp [idx14]) (by blk_simp [idx14])
  refine Eq.trans (congrArg (pointVals m c t).outK ?_) h
  exact funext fun a => by match a with
    | ⟨0, _⟩ => rfl
    | ⟨1, _⟩ => rfl

/-- What token `t` adds to the key norm's gradient. -/
abbrev partK (p : Fin 8) (l : Fin 128) (t : ℕ) : EReal :=
  Spec.part (nK (F := Ideal)) (a_pos m c) (a_dyK m c) (a_xK m c) (a_dySK m c) (a_xSK m c) p l t

/-- Token `s` of point `t` adds its own part. -/
theorem addK_eq (t : Fin cfg0.N) (p : Fin 8) (l : Fin 128) (s : ℕ) (hs : s < 128) :
    (pointVals m c t).addK p l s = partK m c p l (128 * t.val + s) := by
  have ht := lt_of_lt_of_eq t.isLt (show cfg0.N = 16 from N_0)
  unfold Vals.addK partK Spec.part
  rw [dif_pos hs, dif_pos (by omega), tokXK_eq, tokDnK_eq]
  rfl

/-- After point `n` the key norm's gradient holds the parts of the tokens so far. -/
theorem gradsK_eq (p : Fin 8) (l : Fin 128) : ∀ (n : ℕ) (hn : n < cfg0.N),
    (gradsAt m c n hn).2 (ix2 p l) = ∑ t ∈ Finset.range (128 * (n + 1)), partK m c p l t
  | 0, hn => by
    refine (Vals.endK_apply (pointVals m c ⟨0, hn⟩) k0_pay2 p l).trans ?_
    have h0 : k0_pay2 (F := Ideal) (ix2 p l) = 0 := by
      unfold k0_pay2
      pointwise
    rw [h0, zero_add]
    refine Finset.sum_congr rfl fun s hs => ?_
    rw [addK_eq m c ⟨0, hn⟩ p l s (Finset.mem_range.mp hs)]
    exact congrArg (partK m c p l) (show 128 * 0 + s = s by omega)
  | n + 1, hn => by
    refine (Vals.endK_apply (pointVals m c ⟨n + 1, hn⟩) _ p l).trans ?_
    rw [gradsK_eq p l n (Nat.lt_of_succ_lt hn), show 128 * (n + 1 + 1) = 128 * (n + 1) + 128 by ring, Finset.sum_range_add]
    exact congrArg (_ + ·) (Finset.sum_congr rfl fun s hs => addK_eq m c ⟨n + 1, hn⟩ p l s (Finset.mem_range.mp hs))

/-- The key norm's gradient is the sum over all tokens. -/
theorem final16 : (dats m 0 c).arrAt 16 cfg0.N =
    Spec.weightGrad (H := 8) (nK (F := Ideal)) (a_pos m c) (a_dyK m c) (a_xK m c) (a_dySK m c) (a_xSK m c) := by
  refine (dats m 0 c).arrAt_eq_of_after_last 16 t0_15 (by decide +kernel) _ fun j => ?_
  blk_simp
  rw [after0_16]
  have h := gradsK_eq m c (j 0) (j 1) 15 t0_15.isLt
  refine Eq.trans (congrArg (gradsAt m c 15 t0_15.isLt).2 ?_) h
  exact funext fun a => by match a with
    | ⟨0, _⟩ => rfl
    | ⟨1, _⟩ => rfl

end Cert.KernelIdeal.Token

end
-- ==== Proof.RefValue.lean ====
/-
  The arrays the reference leaves: every token's input gradient, and the norms' gradients over all tokens.
-/
module

public import proofs.«01_k».proof.Proof.Gen.ReferenceIdeal.Value
public import proofs.«01_k».proof.Proof.Whole
public import Idealize.ShloMosaic.Lib.Pipeline.ValueKit
public import Idealize.ShloMosaic.Lib.Pointwise.IndexVar
public import Idealize.ShloMosaic.Lib.StableHlo.ReadAt
public import Idealize.ShloMosaic.Lib.StableHlo.RunRead

@[expose] public section

set_option maxRecDepth 16384

noncomputable section

namespace Cert.ReferenceIdeal.Value

open Idealize.ShloMosaic Idealize.ShloMosaic.TcCoe Idealize.SL.Sem
open Cert.ReferenceIdeal Cert.ReferenceIdeal.Gen

variable (m : (ℓ : Loc nD τ sig) → Buf (Elt Ideal) ℓ) (c : Dev nD) (t : Fin cfg0.N)

/-- A sum over the two leading axes of four. -/
theorem reduceAdd_leading {n0 n1 n2 n3 : ℕ} (h : (⟨4, ![n0, n1, n2, n3]⟩ : Shape).Reduces [0, 1] ⟨2, ![n2, n3]⟩)
    (v : (⟨4, ![n0, n1, n2, n3]⟩ : Shape).Idx → EReal) (p : Fin n2) (l : Fin n3) :
    Ideal.reduceAdd h v (ix2 p l) = ∑ b : Fin n0, ∑ s : Fin n1, v (ix4 b s p l) := by
  have hf : ∀ i : (⟨4, ![n0, n1, n2, n3]⟩ : Shape).Idx, h.drop i = ix2 p l ↔ ∃ k : Fin n0 × Fin n1, ix4 k.1 k.2 p l = i := by
    intro i
    constructor
    · intro e
      refine ⟨(i 0, i 1), ?_⟩
      funext a
      apply Fin.ext
      match a with
      | ⟨0, _⟩ => rfl
      | ⟨1, _⟩ => rfl
      | ⟨2, _⟩ => exact (congrArg Fin.val (congrFun e ⟨0, Nat.zero_lt_two⟩)).symm
      | ⟨3, _⟩ => exact (congrArg Fin.val (congrFun e ⟨1, Nat.one_lt_two⟩)).symm
    · rintro ⟨k, rfl⟩
      funext b
      apply Fin.ext
      match b with
      | ⟨0, _⟩ => rfl
      | ⟨1, _⟩ => rfl
  refine (Finset.sum_filter_eq_sum_of_fiber _ (fun k : Fin n0 × Fin n1 => ix4 k.1 k.2 p l)
    (fun _ _ e => Prod.ext (congrFun e 0) (congrFun e 1)) hf v).trans ?_
  simp only [Fintype.sum_prod_type]

/-! ## The means' divisors -/

/-- The number of elements of a query token. -/
theorem n5120 : Ideal.ofBits .f32 0x45A00000#32 = ((5120 : ℝ) : EReal) := by
  simp [Ideal.ofBits, Ideal.ieee, -EReal.coe_mul]
  norm_num

/-- The number of elements of a key token. -/
theorem n1024 : Ideal.ofBits .f32 0x44800000#32 = ((1024 : ℝ) : EReal) := by
  simp [Ideal.ofBits, Ideal.ieee, -EReal.coe_mul]
  norm_num

/-! ## The query heads -/

section Q

variable (dyc : Vec Ideal S2x1024x40x128 .fp8e5m2) (dys : Vec Ideal S2x1024x40 .f32) (xc : Vec Ideal S2x1024x40x128 .fp8e4m3) (xs : Vec Ideal S2x1024x40 .f32)
  (g : Vec Ideal S40x128 .f32) (C S : Vec Ideal S2x1024x1x64 .f32) (T : Fin 2048)

/-- A token's input. -/
theorem xQ_apply (p : Fin 40) (l : Fin 128) :
    k0_pay2 (F := Ideal) xc xs (ix4 (Spec.seqOf T) (Spec.posOf T) p l) = Spec.token (H := 40) xc xs T p l := by
  unfold k0_pay2
  pointwise
  rfl

/-- A token's rotated gradient, from tables of cosines and sines. -/
theorem dnQ_apply (p : Fin 40) (l : Fin 128) :
    k0_pay3 (F := Ideal) dyc dys C S (ix4 (Spec.seqOf T) (Spec.posOf T) p l) =
      Spec.turnedBy (H := 40) dyc dys (fun j => C (ix4 (Spec.seqOf T) (Spec.posOf T) 0 j))
        (fun j => S (ix4 (Spec.seqOf T) (Spec.posOf T) 0 j)) T p l := by
  unfold k0_pay3
  pointwise
  exact Spec.rotate_halves (Spec.token (H := 40) dyc dys T) (fun j => C (ix4 (Spec.seqOf T) (Spec.posOf T) 0 j))
    (fun j => S (ix4 (Spec.seqOf T) (Spec.posOf T) 0 j)) p l _ _ _ _ _

/-- The sum of a token's squares. -/
theorem sqQ_apply : k0_pay4 (F := Ideal) xc xs (ix4 (Spec.seqOf T) (Spec.posOf T) 0 0) =
    ∑ p, ∑ l, Spec.token (H := 40) xc xs T p l * Spec.token (H := 40) xc xs T p l := by
  unfold k0_pay4
  pointwise
  simp only [xQ_apply]

/-- A token's reciprocal root mean square. -/
theorem rstdQ_apply : k0_pay6 (F := Ideal) (k0_pay4 xc xs) k0_pay5 (ix4 (Spec.seqOf T) (Spec.posOf T) 0 0) =
    Spec.rstd ((1 / 5120 : ℝ) : EReal) (Spec.token (H := 40) xc xs T) := by
  unfold k0_pay6 k0_pay5
  pointwise
  rw [sqQ_apply]
  refine Eq.trans ?_ (Spec.rstd_of_mean 5120 (by norm_num) (Spec.token (H := 40) xc xs T))
  rw [← n5120]

/-- A token's normalised input. -/
theorem xhatQ_apply (p : Fin 40) (l : Fin 128) :
    k0_pay7 (F := Ideal) (k0_pay2 xc xs) (k0_pay4 xc xs) k0_pay5 (ix4 (Spec.seqOf T) (Spec.posOf T) p l) =
      Spec.token (H := 40) xc xs T p l * Spec.rstd ((1 / 5120 : ℝ) : EReal) (Spec.token (H := 40) xc xs T) := by
  unfold k0_pay7
  pointwise
  rw [xQ_apply, rstdQ_apply]

/-- Every row of the query gradients is its token's. -/
theorem dxQ_apply (r : Fin 81920) (p : Fin 40) (l : Fin 128) (hr : r.val = T.val * 40 + p.val) :
    k0_pay9 (F := Ideal) g (k0_pay2 xc xs) (k0_pay3 dyc dys C S) (k0_pay4 xc xs) k0_pay5 (ix2 r l) =
      Spec.dx ((1 / 5120 : ℝ) : EReal) (Spec.token (H := 40) xc xs T) (Spec.turnedBy (H := 40) dyc dys (fun j => C (ix4 (Spec.seqOf T) (Spec.posOf T) 0 j))
        (fun j => S (ix4 (Spec.seqOf T) (Spec.posOf T) 0 j)) T) (fun p l => g (ix2 p l)) p l := by
  have hp := p.isLt
  have h1 : ∀ h, (⟨r.val / 40960, h⟩ : Fin 2) = Spec.seqOf T := fun h => Fin.ext (show r.val / 40960 = T.val / 1024 by omega)
  have h2 : ∀ h, (⟨r.val / 40 % 1024, h⟩ : Fin 1024) = Spec.posOf T := fun h => Fin.ext (show r.val / 40 % 1024 = T.val % 1024 by omega)
  have h3 : ∀ h, (⟨r.val % 40, h⟩ : Fin 40) = p := fun h => Fin.ext (show r.val % 40 = p.val by omega)
  unfold k0_pay9
  pointwise
  simp only [h1, h2, h3, rstdQ_apply, xhatQ_apply, dnQ_apply]
  refine Eq.trans ?_ (Spec.dx_of_mean 5120 (by norm_num) (Spec.token (H := 40) xc xs T) (Spec.turnedBy (H := 40) dyc dys (fun j => C (ix4 (Spec.seqOf T) (Spec.posOf T) 0 j))
        (fun j => S (ix4 (Spec.seqOf T) (Spec.posOf T) 0 j)) T) (fun p l => g (ix2 p l)) p l)
  rw [← n5120]

/-- The query norm's gradient is the sum over all tokens. -/
theorem dgQ_apply (p : Fin 40) (l : Fin 128) :
    k0_pay8 (F := Ideal) (k0_pay2 xc xs) (k0_pay3 dyc dys C S) (k0_pay4 xc xs) k0_pay5 (ix2 p l) =
      ∑ t ∈ Finset.range 2048, if h : t < 2048 then Spec.dg ((1 / 5120 : ℝ) : EReal) (Spec.token (H := 40) xc xs ⟨t, h⟩)
        ((fun T => Spec.turnedBy (H := 40) dyc dys (fun j => C (ix4 (Spec.seqOf T) (Spec.posOf T) 0 j))
        (fun j => S (ix4 (Spec.seqOf T) (Spec.posOf T) 0 j)) T) ⟨t, h⟩) p l else 0 := by
  unfold k0_pay8
  refine (reduceAdd_leading _ _ p l).trans ?_
  rw [Spec.sum_tokens]
  refine Finset.sum_congr rfl fun t ht => ?_
  split
  · next h =>
    refine Eq.trans (congrArg₂ (fun a b : EReal => a * b) (dnQ_apply dyc dys C S ⟨t, h⟩ p l) (xhatQ_apply xc xs ⟨t, h⟩ p l)) ?_
    rfl
  · rfl

end Q

/-! ## The key heads -/

section K

variable (dyc : Vec Ideal S2x1024x8x128 .fp8e5m2) (dys : Vec Ideal S2x1024x8 .f32) (xc : Vec Ideal S2x1024x8x128 .fp8e4m3) (xs : Vec Ideal S2x1024x8 .f32)
  (g : Vec Ideal S8x128 .f32) (C S : Vec Ideal S2x1024x1x64 .f32) (T : Fin 2048)

/-- A token's input. -/
theorem xK_apply (p : Fin 8) (l : Fin 128) :
    k0_pay10 (F := Ideal) xc xs (ix4 (Spec.seqOf T) (Spec.posOf T) p l) = Spec.token (H := 8) xc xs T p l := by
  unfold k0_pay10
  pointwise
  rfl

/-- A token's rotated gradient, from tables of cosines and sines. -/
theorem dnK_apply (p : Fin 8) (l : Fin 128) :
    k0_pay11 (F := Ideal) dyc dys C S (ix4 (Spec.seqOf T) (Spec.posOf T) p l) =
      Spec.turnedBy (H := 8) dyc dys (fun j => C (ix4 (Spec.seqOf T) (Spec.posOf T) 0 j))
        (fun j => S (ix4 (Spec.seqOf T) (Spec.posOf T) 0 j)) T p l := by
  unfold k0_pay11
  pointwise
  exact Spec.rotate_halves (Spec.token (H := 8) dyc dys T) (fun j => C (ix4 (Spec.seqOf T) (Spec.posOf T) 0 j))
    (fun j => S (ix4 (Spec.seqOf T) (Spec.posOf T) 0 j)) p l _ _ _ _ _

/-- A token's reciprocal root mean square. -/
theorem rstdK_apply : k0_pay12 (F := Ideal) xc xs (ix4 (Spec.seqOf T) (Spec.posOf T) 0 0) =
    Spec.rstd ((1 / 1024 : ℝ) : EReal) (Spec.token (H := 8) xc xs T) := by
  unfold k0_pay12
  pointwise
  simp only [xK_apply]
  refine Eq.trans ?_ (Spec.rstd_of_mean 1024 (by norm_num) (Spec.token (H := 8) xc xs T))
  rw [← n1024]

/-- A token's normalised input. -/
theorem xhatK_apply (p : Fin 8) (l : Fin 128) :
    k0_pay13 (F := Ideal) xc xs (ix4 (Spec.seqOf T) (Spec.posOf T) p l) =
      Spec.token (H := 8) xc xs T p l * Spec.rstd ((1 / 1024 : ℝ) : EReal) (Spec.token (H := 8) xc xs T) := by
  unfold k0_pay13
  pointwise
  rw [xK_apply, rstdK_apply]

/-- Every row of the key gradients is its token's. -/
theorem dxK_apply (r : Fin 16384) (p : Fin 8) (l : Fin 128) (hr : r.val = T.val * 8 + p.val) :
    k0_pay1 (F := Ideal) (k0_pay15 dyc dys xc xs g C S) (ix2 r l) =
      Spec.dx ((1 / 1024 : ℝ) : EReal) (Spec.token (H := 8) xc xs T) (Spec.turnedBy (H := 8) dyc dys (fun j => C (ix4 (Spec.seqOf T) (Spec.posOf T) 0 j))
        (fun j => S (ix4 (Spec.seqOf T) (Spec.posOf T) 0 j)) T) (fun p l => g (ix2 p l)) p l := by
  have hp := p.isLt
  have h1 : ∀ h, (⟨r.val / 8192, h⟩ : Fin 2) = Spec.seqOf T := fun h => Fin.ext (show r.val / 8192 = T.val / 1024 by omega)
  have h2 : ∀ h, (⟨r.val / 8 % 1024, h⟩ : Fin 1024) = Spec.posOf T := fun h => Fin.ext (show r.val / 8 % 1024 = T.val % 1024 by omega)
  have h3 : ∀ h, (⟨r.val % 8, h⟩ : Fin 8) = p := fun h => Fin.ext (show r.val % 8 = p.val by omega)
  unfold k0_pay1 k0_pay15
  pointwise
  simp only [h1, h2, h3, rstdK_apply, xhatK_apply, dnK_apply]
  refine Eq.trans ?_ (Spec.dx_of_mean 1024 (by norm_num) (Spec.token (H := 8) xc xs T) (Spec.turnedBy (H := 8) dyc dys (fun j => C (ix4 (Spec.seqOf T) (Spec.posOf T) 0 j))
        (fun j => S (ix4 (Spec.seqOf T) (Spec.posOf T) 0 j)) T) (fun p l => g (ix2 p l)) p l)
  rw [← n1024]

/-- The key norm's gradient is the sum over all tokens. -/
theorem dgK_apply (p : Fin 8) (l : Fin 128) :
    k0_pay14 (F := Ideal) dyc dys xc xs C S (ix2 p l) =
      ∑ t ∈ Finset.range 2048, if h : t < 2048 then Spec.dg ((1 / 1024 : ℝ) : EReal) (Spec.token (H := 8) xc xs ⟨t, h⟩)
        ((fun T => Spec.turnedBy (H := 8) dyc dys (fun j => C (ix4 (Spec.seqOf T) (Spec.posOf T) 0 j))
        (fun j => S (ix4 (Spec.seqOf T) (Spec.posOf T) 0 j)) T) ⟨t, h⟩) p l else 0 := by
  unfold k0_pay14
  refine (reduceAdd_leading _ _ p l).trans ?_
  rw [Spec.sum_tokens]
  refine Finset.sum_congr rfl fun t ht => ?_
  split
  · next h =>
    refine Eq.trans (congrArg₂ (fun a b : EReal => a * b) (dnK_apply dyc dys C S ⟨t, h⟩ p l) (xhatK_apply xc xs ⟨t, h⟩ p l)) ?_
    rfl
  · rfl

end K

/-! ## The windows: whole arrays -/

/-- Argument 0. -/
abbrev a_dyQ := m ((c.tc : Thread nD τ).loc main_arg0)
/-- Argument 1. -/
abbrev a_dySQ := m ((c.tc : Thread nD τ).loc main_arg1)
/-- Argument 2. -/
abbrev a_dyK := m ((c.tc : Thread nD τ).loc main_arg2)
/-- Argument 3. -/
abbrev a_dySK := m ((c.tc : Thread nD τ).loc main_arg3)
/-- Argument 4. -/
abbrev a_xQ := m ((c.tc : Thread nD τ).loc main_arg4)
/-- Argument 5. -/
abbrev a_xSQ := m ((c.tc : Thread nD τ).loc main_arg5)
/-- Argument 6. -/
abbrev a_xK := m ((c.tc : Thread nD τ).loc main_arg6)
/-- Argument 7. -/
abbrev a_xSK := m ((c.tc : Thread nD τ).loc main_arg7)
/-- Argument 8. -/
abbrev a_gQ := m ((c.tc : Thread nD τ).loc main_arg8)
/-- Argument 9. -/
abbrev a_gK := m ((c.tc : Thread nD τ).loc main_arg9)
/-- Argument 10. -/
abbrev a_pos := m ((c.tc : Thread nD τ).loc main_arg10)
/-- Window 0 is the whole array. -/
theorem idx0 : ∀ t, win0_0.index t = ![0, 0, 0, 0] := by decide +kernel
/-- Window 1 is the whole array. -/
theorem idx1 : ∀ t, win0_1.index t = ![0, 0, 0] := by decide +kernel
/-- Window 2 is the whole array. -/
theorem idx2 : ∀ t, win0_2.index t = ![0, 0, 0, 0] := by decide +kernel
/-- Window 3 is the whole array. -/
theorem idx3 : ∀ t, win0_3.index t = ![0, 0, 0] := by decide +kernel
/-- Window 4 is the whole array. -/
theorem idx4 : ∀ t, win0_4.index t = ![0, 0, 0, 0] := by decide +kernel
/-- Window 5 is the whole array. -/
theorem idx5 : ∀ t, win0_5.index t = ![0, 0, 0] := by decide +kernel
/-- Window 6 is the whole array. -/
theorem idx6 : ∀ t, win0_6.index t = ![0, 0, 0, 0] := by decide +kernel
/-- Window 7 is the whole array. -/
theorem idx7 : ∀ t, win0_7.index t = ![0, 0, 0] := by decide +kernel
/-- Window 8 is the whole array. -/
theorem idx8 : ∀ t, win0_8.index t = ![0, 0] := by decide +kernel
/-- Window 9 is the whole array. -/
theorem idx9 : ∀ t, win0_9.index t = ![0, 0] := by decide +kernel
/-- Window 10 is the whole array. -/
theorem idx10 : ∀ t, win0_10.index t = ![0, 0, 0, 0] := by decide +kernel
/-- Window 11 is the whole array. -/
theorem idx11 : ∀ t, win0_11.index t = ![0, 0, 0, 0] := by decide +kernel

/-- Window 0 stages argument 0 whole. -/
theorem blk0 : iblk m c 0 t = m ((c.tc : Thread nD τ).loc main_arg0) := by
  refine Eq.trans ?_ (V_main_arg0 m c)
  funext y
  blk_ext [iblk, idx0]

/-- Window 1 stages argument 1 whole. -/
theorem blk1 : iblk m c 1 t = m ((c.tc : Thread nD τ).loc main_arg1) := by
  refine Eq.trans ?_ (V_main_arg1 m c)
  funext y
  blk_ext [iblk, idx1]

/-- Window 2 stages argument 2 whole. -/
theorem blk2 : iblk m c 2 t = m ((c.tc : Thread nD τ).loc main_arg2) := by
  refine Eq.trans ?_ (V_main_arg2 m c)
  funext y
  blk_ext [iblk, idx2]

/-- Window 3 stages argument 3 whole. -/
theorem blk3 : iblk m c 3 t = m ((c.tc : Thread nD τ).loc main_arg3) := by
  refine Eq.trans ?_ (V_main_arg3 m c)
  funext y
  blk_ext [iblk, idx3]

/-- Window 4 stages argument 4 whole. -/
theorem blk4 : iblk m c 4 t = m ((c.tc : Thread nD τ).loc main_arg4) := by
  refine Eq.trans ?_ (V_main_arg4 m c)
  funext y
  blk_ext [iblk, idx4]

/-- Window 5 stages argument 5 whole. -/
theorem blk5 : iblk m c 5 t = m ((c.tc : Thread nD τ).loc main_arg5) := by
  refine Eq.trans ?_ (V_main_arg5 m c)
  funext y
  blk_ext [iblk, idx5]

/-- Window 6 stages argument 6 whole. -/
theorem blk6 : iblk m c 6 t = m ((c.tc : Thread nD τ).loc main_arg6) := by
  refine Eq.trans ?_ (V_main_arg6 m c)
  funext y
  blk_ext [iblk, idx6]

/-- Window 7 stages argument 7 whole. -/
theorem blk7 : iblk m c 7 t = m ((c.tc : Thread nD τ).loc main_arg7) := by
  refine Eq.trans ?_ (V_main_arg7 m c)
  funext y
  blk_ext [iblk, idx7]

/-- Window 8 stages argument 8 whole. -/
theorem blk8 : iblk m c 8 t = m ((c.tc : Thread nD τ).loc main_arg8) := by
  refine Eq.trans ?_ (V_main_arg8 m c)
  funext y
  blk_ext [iblk, idx8]

/-- Window 9 stages argument 9 whole. -/
theorem blk9 : iblk m c 9 t = m ((c.tc : Thread nD τ).loc main_arg9) := by
  refine Eq.trans ?_ (V_main_arg9 m c)
  funext y
  blk_ext [iblk, idx9]

/-- Window 10 stages the table of cosines. -/
theorem blk10 (T : Fin 2048) (j : Fin 64) :
    iblk m c 10 t (ix4 (Spec.seqOf T) (Spec.posOf T) 0 j) = Ideal.cos (Spec.angle (a_pos m c) T j) := by
  have h : V m c main_v15 (ix4 (Spec.seqOf T) (Spec.posOf T) 0 j) = Ideal.cos (Spec.angle (a_pos m c) T j) := by
    unfold V
    simp only [hostOps0, List.flatten_cons, List.flatten_nil, List.append_nil, List.cons_append, List.nil_append]
    after_reads_at
    rfl
  refine Eq.trans ?_ h
  unfold Spec.seqOf Spec.posOf
  blk_ext [iblk, idx10]

/-- Window 11 stages the table of sines. -/
theorem blk11 (T : Fin 2048) (j : Fin 64) :
    iblk m c 11 t (ix4 (Spec.seqOf T) (Spec.posOf T) 0 j) = Ideal.sin (Spec.angle (a_pos m c) T j) := by
  have h : V m c main_v17 (ix4 (Spec.seqOf T) (Spec.posOf T) 0 j) = Ideal.sin (Spec.angle (a_pos m c) T j) := by
    unfold V
    simp only [hostOps0, List.flatten_cons, List.flatten_nil, List.append_nil, List.cons_append, List.nil_append]
    after_reads_at
    rfl
  refine Eq.trans ?_ h
  unfold Spec.seqOf Spec.posOf
  blk_ext [iblk, idx11]

/-- The query heads' rotated gradient, its tables read. -/
theorem turnedQ_eq (T : Fin 2048) :
    Spec.turnedBy (H := 40) (a_dyQ m c) (a_dySQ m c) (fun j => iblk m c 10 t (ix4 (Spec.seqOf T) (Spec.posOf T) 0 j))
      (fun j => iblk m c 11 t (ix4 (Spec.seqOf T) (Spec.posOf T) 0 j)) T =
      Spec.turned (H := 40) (a_pos m c) (a_dyQ m c) (a_dySQ m c) T := by
  unfold Spec.turned
  rw [funext fun j => blk10 m c t T j, funext fun j => blk11 m c t T j]

/-- Every row of the query gradients is its token's. -/
theorem final12 : (dats m 0 c).arrAt 12 cfg0.N =
    Spec.gradRows (H := 40) ((1 / 5120 : ℝ) : EReal) (a_pos m c) (a_dyQ m c) (a_xQ m c) (a_dySQ m c) (a_xSQ m c) (a_gQ m c)
      (R := 81920) (by decide) := by
  refine (dats m 0 c).arrAt_eq_of_after_last 12 t0_0 (by decide +kernel) _ fun j => ?_
  blk_simp
  rw [after0_12]
  unfold_out out0_12
  frame_out
  rw [blk0, blk1, blk4, blk5, blk8]
  have hj : (j 0).val < 81920 := (j 0).isLt
  have h := dxQ_apply (a_dyQ m c) (a_dySQ m c) (a_xQ m c) (a_xSQ m c) (a_gQ m c) (iblk m c 10 t0_0) (iblk m c 11 t0_0)
    ⟨(j 0).val / 40, by omega⟩ (j 0) ⟨(j 0).val % 40, by omega⟩ (j 1) (by show (j 0).val = (j 0).val / 40 * 40 + (j 0).val % 40; omega)
  rw [turnedQ_eq] at h
  refine Eq.trans (congrArg _ ?_) h
  exact funext fun a => by match a with
    | ⟨0, _⟩ => rfl
    | ⟨1, _⟩ => rfl

/-- The query norm's gradient is the sum over all tokens. -/
theorem final14 : (dats m 0 c).arrAt 14 cfg0.N =
    Spec.weightGrad (H := 40) ((1 / 5120 : ℝ) : EReal) (a_pos m c) (a_dyQ m c) (a_xQ m c) (a_dySQ m c) (a_xSQ m c) := by
  refine (dats m 0 c).arrAt_eq_of_after_last 14 t0_0 (by decide +kernel) _ fun j => ?_
  blk_simp
  rw [after0_14]
  unfold_out out0_14
  frame_out
  rw [blk0, blk1, blk4, blk5]
  have h := dgQ_apply (a_dyQ m c) (a_dySQ m c) (a_xQ m c) (a_xSQ m c) (iblk m c 10 t0_0) (iblk m c 11 t0_0) (j 0) (j 1)
  simp only [turnedQ_eq] at h
  refine Eq.trans (congrArg _ ?_) h
  exact funext fun a => by match a with
    | ⟨0, _⟩ => rfl
    | ⟨1, _⟩ => rfl

/-- The key heads' rotated gradient, its tables read. -/
theorem turnedK_eq (T : Fin 2048) :
    Spec.turnedBy (H := 8) (a_dyK m c) (a_dySK m c) (fun j => iblk m c 10 t (ix4 (Spec.seqOf T) (Spec.posOf T) 0 j))
      (fun j => iblk m c 11 t (ix4 (Spec.seqOf T) (Spec.posOf T) 0 j)) T =
      Spec.turned (H := 8) (a_pos m c) (a_dyK m c) (a_dySK m c) T := by
  unfold Spec.turned
  rw [funext fun j => blk10 m c t T j, funext fun j => blk11 m c t T j]

/-- Every row of the key gradients is its token's. -/
theorem final13 : (dats m 0 c).arrAt 13 cfg0.N =
    Spec.gradRows (H := 8) ((1 / 1024 : ℝ) : EReal) (a_pos m c) (a_dyK m c) (a_xK m c) (a_dySK m c) (a_xSK m c) (a_gK m c)
      (R := 16384) (by decide) := by
  refine (dats m 0 c).arrAt_eq_of_after_last 13 t0_0 (by decide +kernel) _ fun j => ?_
  blk_simp
  rw [after0_13]
  unfold_out out0_13
  frame_out
  rw [blk2, blk3, blk6, blk7, blk9]
  have hj : (j 0).val < 16384 := (j 0).isLt
  have h := dxK_apply (a_dyK m c) (a_dySK m c) (a_xK m c) (a_xSK m c) (a_gK m c) (iblk m c 10 t0_0) (iblk m c 11 t0_0)
    ⟨(j 0).val / 8, by omega⟩ (j 0) ⟨(j 0).val % 8, by omega⟩ (j 1) (by show (j 0).val = (j 0).val / 8 * 8 + (j 0).val % 8; omega)
  rw [turnedK_eq] at h
  refine Eq.trans (congrArg _ ?_) h
  exact funext fun a => by match a with
    | ⟨0, _⟩ => rfl
    | ⟨1, _⟩ => rfl

/-- The key norm's gradient is the sum over all tokens. -/
theorem final15 : (dats m 0 c).arrAt 15 cfg0.N =
    Spec.weightGrad (H := 8) ((1 / 1024 : ℝ) : EReal) (a_pos m c) (a_dyK m c) (a_xK m c) (a_dySK m c) (a_xSK m c) := by
  refine (dats m 0 c).arrAt_eq_of_after_last 15 t0_0 (by decide +kernel) _ fun j => ?_
  blk_simp
  rw [after0_15]
  unfold_out out0_15
  frame_out
  rw [blk2, blk3, blk6, blk7]
  have h := dgK_apply (a_dyK m c) (a_dySK m c) (a_xK m c) (a_xSK m c) (iblk m c 10 t0_0) (iblk m c 11 t0_0) (j 0) (j 1)
  simp only [turnedK_eq] at h
  refine Eq.trans (congrArg _ ?_) h
  exact funext fun a => by match a with
    | ⟨0, _⟩ => rfl
    | ⟨1, _⟩ => rfl

end Cert.ReferenceIdeal.Value

end
-- ==== Proof.Algebraic.lean ====
/-
  The idealised kernel and the reference leave the same four arrays.
-/
module

public import proofs.«01_k».proof.Defs
public import proofs.«01_k».proof.Proof.Arrays
public import proofs.«01_k».proof.Proof.RefValue

@[expose] public section

noncomputable section

namespace Cert.KernelIdeal.Token

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- The named constant is one over the number of elements of a query token. -/
theorem nQ_eq : nQ (F := Ideal) = ((1 / 5120 : ℝ) : EReal) := rfl

/-- The keys' constant is one over the number of elements of a key token. -/
theorem nK_eq : nK (F := Ideal) = ((1 / 1024 : ℝ) : EReal) := by
  show Ideal.ofBits .f32 0x3A800000#32 = _
  simp [Ideal.ofBits, Ideal.ieee, -EReal.coe_mul]
  norm_num

/-- The kernel's run: its four result arrays, and the arguments unchanged. -/
theorem run_values : θ_run defs (onTc (τ := τ) (main (F := Ideal))) ⟨m, fun _ => 0, ρ⟩ (fun r => ∀ c : Dev nD,
      r.2.mem ((c.tc : Thread nD τ).loc main_v25_0) = (dats m 0 c).arrAt 13 cfg0.N
      ∧ r.2.mem ((c.tc : Thread nD τ).loc main_v25_1) = (dats m 0 c).arrAt 14 cfg0.N
      ∧ r.2.mem ((c.tc : Thread nD τ).loc main_v25_2) = (dats m 0 c).arrAt 15 cfg0.N
      ∧ r.2.mem ((c.tc : Thread nD τ).loc main_v25_3) = (dats m 0 c).arrAt 16 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h.2 c).1 13, (h.2 c).1 14, (h.2 c).1 15, (h.2 c).1 16, h.1 c⟩)
    (θ_run_and (unchanged m ρ) (run_main m ρ))

end Cert.KernelIdeal.Token

namespace Cert.Proof

open Idealize.ShloMosaic Idealize.ShloMosaic.TcCoe Idealize.SL.Sem

/-- From memories agreeing on the arguments both programs end with equal results, element by element, and the arguments unchanged. -/
theorem algebraic : Cert.algebraic_KernelIdeal_ReferenceIdeal (hKernelIdeal := Cert.KernelIdeal.Gen.facts)
    (hReferenceIdeal := Cert.ReferenceIdeal.Gen.facts) := by
  intro m g m' g' _ hagree
  refine ⟨fun c => (Cert.KernelIdeal.Token.dats m 0 c).arrAt 13 Cert.KernelIdeal.cfg0.N,
    fun c => (Cert.KernelIdeal.Token.dats m 0 c).arrAt 14 Cert.KernelIdeal.cfg0.N,
    fun c => (Cert.KernelIdeal.Token.dats m 0 c).arrAt 15 Cert.KernelIdeal.cfg0.N,
    fun c => (Cert.KernelIdeal.Token.dats m 0 c).arrAt 16 Cert.KernelIdeal.cfg0.N,
    Cert.KernelIdeal.Token.run_values m g, ?_⟩
  refine (θ_run _ _ _).mono (fun r h c => ?_) (Cert.ReferenceIdeal.Value.run_blocks m' g')
  obtain ⟨h0, h1, h2, h3, hu⟩ := h c
  obtain ⟨a0, a1, a2, a3, a4, a5, a6, a7, a8, a9, a10⟩ := hagree c
  refine ⟨h0.trans ?_, h1.trans ?_, h2.trans ?_, h3.trans ?_, hu⟩
  · refine Eq.trans ?_ (Cert.KernelIdeal.Token.final13 m c).symm
    rw [Cert.ReferenceIdeal.Value.final12, Cert.KernelIdeal.Token.nQ_eq]
    simp only [Cert.ReferenceIdeal.Value.a_pos, Cert.ReferenceIdeal.Value.a_dyQ, Cert.ReferenceIdeal.Value.a_xQ,
      Cert.ReferenceIdeal.Value.a_dySQ, Cert.ReferenceIdeal.Value.a_xSQ, Cert.ReferenceIdeal.Value.a_gQ, a0, a1, a4, a5, a8, a10]
  · refine Eq.trans ?_ (Cert.KernelIdeal.Token.final14 m c).symm
    rw [Cert.ReferenceIdeal.Value.final13, Cert.KernelIdeal.Token.nK_eq]
    simp only [Cert.ReferenceIdeal.Value.a_pos, Cert.ReferenceIdeal.Value.a_dyK, Cert.ReferenceIdeal.Value.a_xK,
      Cert.ReferenceIdeal.Value.a_dySK, Cert.ReferenceIdeal.Value.a_xSK, Cert.ReferenceIdeal.Value.a_gK, a2, a3, a6, a7, a9, a10]
  · refine Eq.trans ?_ (Cert.KernelIdeal.Token.final15 m c).symm
    rw [Cert.ReferenceIdeal.Value.final14, Cert.KernelIdeal.Token.nQ_eq]
    simp only [Cert.ReferenceIdeal.Value.a_pos, Cert.ReferenceIdeal.Value.a_dyQ, Cert.ReferenceIdeal.Value.a_xQ,
      Cert.ReferenceIdeal.Value.a_dySQ, Cert.ReferenceIdeal.Value.a_xSQ, a0, a1, a4, a5, a10]
  · refine Eq.trans ?_ (Cert.KernelIdeal.Token.final16 m c).symm
    rw [Cert.ReferenceIdeal.Value.final15, Cert.KernelIdeal.Token.nK_eq]
    simp only [Cert.ReferenceIdeal.Value.a_pos, Cert.ReferenceIdeal.Value.a_dyK, Cert.ReferenceIdeal.Value.a_xK,
      Cert.ReferenceIdeal.Value.a_dySK, Cert.ReferenceIdeal.Value.a_xSK, a2, a3, a6, a7, a10]

end Cert.Proof

end
-- ==== Proof.lean ====
/- The proof of every claim of this certificate. -/
module

public import proofs.«01_k».proof.Defs
public import proofs.«01_k».proof.Proof.Gen.Kernel
public import proofs.«01_k».proof.Proof.Bits
public import proofs.«01_k».proof.Proof.Gen.KernelIdeal
public import proofs.«01_k».proof.Proof.Gen.ReferenceIdeal
public import proofs.«01_k».proof.Proof.Gen.ReferenceIdeal.Frame
public import proofs.«01_k».proof.Proof.Run
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- Every claim: the three programs' frames, that the named constant keeps the kernel's meaning, and that
    the idealised kernel and the reference leave the same four arrays. -/
theorem claim : Cert.Claim :=
  ⟨Cert.Kernel.Gen.facts, Cert.KernelIdeal.Gen.facts, Cert.ReferenceIdeal.Gen.facts,
    fun m ρ _ => Cert.Kernel.Token.frame m ρ,
    fun m ρ _ => Cert.KernelIdeal.Token.frame m ρ,
    fun m ρ _ => Cert.ReferenceIdeal.Gen.frame m ρ,
    IdealRules.named_const.statement Cert.KernelIdeal.κ "inv_n" .f32 0x394CCCCD#32 ((1 / 5120 : ℝ) : EReal) rfl,
    Cert.Proof.algebraic⟩

end Cert.Proof

end
